-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_v15_3) = v3 c
          ∧ r.2.mem ((c.tc : Thread Cert.ReferenceIdeal.nD Cert.ReferenceIdeal.τ).loc Cert.ReferenceIdeal.main_v15_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x16384 : Shape := ⟨3, ![4, 3072, 16384]⟩
abbrev S16384 : Shape := ⟨1, ![16384]⟩
abbrev S16384x2304 : Shape := ⟨2, ![16384, 2304]⟩
abbrev S2304 : Shape := ⟨1, ![2304]⟩
abbrev S4x3072 : Shape := ⟨2, ![4, 3072]⟩
abbrev S64 : Shape := ⟨1, ![64]⟩
abbrev S_ : Shape := ⟨0, ![]⟩
abbrev S128 : Shape := ⟨1, ![128]⟩
abbrev S1x128 : Shape := ⟨2, ![1, 128]⟩
abbrev S12288x16384 : Shape := ⟨2, ![12288, 16384]⟩
abbrev S1x16384 : Shape := ⟨2, ![1, 16384]⟩
abbrev S1x2304 : Shape := ⟨2, ![1, 2304]⟩
abbrev S12288x1 : Shape := ⟨2, ![12288, 1]⟩
abbrev S12288x2048 : Shape := ⟨2, ![12288, 2048]⟩
abbrev S12288x128 : Shape := ⟨2, ![12288, 128]⟩
abbrev S128x16384 : Shape := ⟨2, ![128, 16384]⟩
abbrev S128x1 : Shape := ⟨2, ![128, 1]⟩
abbrev S128x2048 : Shape := ⟨2, ![128, 2048]⟩
abbrev S128x128 : Shape := ⟨2, ![128, 128]⟩
abbrev S128x256 : Shape := ⟨2, ![128, 256]⟩
abbrev S128x2304 : Shape := ⟨2, ![128, 2304]⟩

abbrev nBuf : Space → Nat
  | .hbm => 30
  | .vmem => 18
  | .smem => 0
  | _ => 0

abbrev bufTy : (tb : Table) → Fin (tcTables nBuf tb) → BufTy
  | .hbm, ⟨0, _⟩ => ⟨S4x3072x16384, .bf16⟩
  | .hbm, ⟨1, _⟩ => ⟨S16384, .f32⟩
  | .hbm, ⟨2, _⟩ => ⟨S16384x2304, .fp8e4m3⟩
  | .hbm, ⟨3, _⟩ => ⟨S2304, .f32⟩
  | .hbm, ⟨4, _⟩ => ⟨S4x3072, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S12288x16384, .bf16⟩
  | .hbm, ⟨22, _⟩ => ⟨S1x16384, .f32⟩
  | .hbm, ⟨23, _⟩ => ⟨S1x2304, .f32⟩
  | .hbm, ⟨24, _⟩ => ⟨S12288x1, .i32⟩
  | .hbm, ⟨25, _⟩ => ⟨S12288x2048, .bf16⟩
  | .hbm, ⟨26, _⟩ => ⟨S12288x128, .bf16⟩
  | .hbm, ⟨27, _⟩ => ⟨S12288x128, .bf16⟩
  | .hbm, ⟨28, _⟩ => ⟨S12288x16384, .fp8e4m3⟩
  | .hbm, ⟨29, _⟩ => ⟨S12288x1, .f32⟩
  | .local _ .vmem, ⟨0, _⟩ => ⟨S128x16384, .bf16⟩
  | .local _ .vmem, ⟨1, _⟩ => ⟨S128x16384, .bf16⟩
  | .local _ .vmem, ⟨2, _⟩ => ⟨S1x16384, .f32⟩
  | .local _ .vmem, ⟨3, _⟩ => ⟨S16384x2304, .fp8e4m3⟩
  | .local _ .vmem, ⟨4, _⟩ => ⟨S1x2304, .f32⟩
  | .local _ .vmem, ⟨5, _⟩ => ⟨S128x1, .i32⟩
  | .local _ .vmem, ⟨6, _⟩ => ⟨S128x1, .i32⟩
  | .local _ .vmem, ⟨7, _⟩ => ⟨S1x128, .f32⟩
  | .local _ .vmem, ⟨8, _⟩ => ⟨S128x2048, .bf16⟩
  | .local _ .vmem, ⟨9, _⟩ => ⟨S128x2048, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x16384, .fp8e4m3⟩
  | .local _ .vmem, ⟨15, _⟩ => ⟨S128x16384, .fp8e4m3⟩
  | .local _ .vmem, ⟨16, _⟩ => ⟨S128x1, .f32⟩
  | .local _ .vmem, ⟨17, _⟩ => ⟨S128x1, .f32⟩
  | _, _ => ⟨S4x3072x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x16384 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x3072x16384 : Shape := ⟨3, ![4, 3072, 16384]⟩
abbrev S16384 : Shape := ⟨1, ![16384]⟩
abbrev S16384x2304 : Shape := ⟨2, ![16384, 2304]⟩
abbrev S2304 : Shape := ⟨1, ![2304]⟩
abbrev S4x3072 : Shape := ⟨2, ![4, 3072]⟩
abbrev S64 : Shape := ⟨1, ![64]⟩
abbrev S_ : Shape := ⟨0, ![]⟩
abbrev S12288x16384 : Shape := ⟨2, ![12288, 16384]⟩
abbrev S1x16384 : Shape := ⟨2, ![1, 16384]⟩
abbrev S1x2304 : Shape := ⟨2, ![1, 2304]⟩
abbrev S12288x1 : Shape := ⟨2, ![12288, 1]⟩
abbrev S1x64 : Shape := ⟨2, ![1, 64]⟩
abbrev S12288x2048 : Shape := ⟨2, ![12288, 2048]⟩
abbrev S12288x128 : Shape := ⟨2, ![12288, 128]⟩
abbrev S12288 : Shape := ⟨1, ![12288]⟩
abbrev S12288x2304 : Shape := ⟨2, ![12288, 2304]⟩
abbrev S12288x64 : Shape := ⟨2, ![12288, 64]⟩

abbrev nBuf : Space → Nat
  | .hbm => 29
  | .vmem => 11
  | .smem => 0
  | _ => 0

abbrev bufTy : (tb : Table) → Fin (tcTables nBuf tb) → BufTy
  | .hbm, ⟨0, _⟩ => ⟨S4x3072x16384, .bf16⟩
  | .hbm, ⟨1, _⟩ => ⟨S16384, .f32⟩
  | .hbm, ⟨2, _⟩ => ⟨S16384x2304, .fp8e4m3⟩
  | .hbm, ⟨3, _⟩ => ⟨S2304, .f32⟩
  | .hbm, ⟨4, _⟩ => ⟨S4x3072, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S12288x16384, .bf16⟩
  | .hbm, ⟨20, _⟩ => ⟨S1x16384, .f32⟩
  | .hbm, ⟨21, _⟩ => ⟨S1x2304, .f32⟩
  | .hbm, ⟨22, _⟩ => ⟨S12288x1, .i32⟩
  | .hbm, ⟨23, _⟩ => ⟨S1x64, .f32⟩
  | .hbm, ⟨24, _⟩ => ⟨S12288x2048, .bf16⟩
  | .hbm, ⟨25, _⟩ => ⟨S12288x128, .bf16⟩
  | .hbm, ⟨26, _⟩ => ⟨S12288x128, .bf16⟩
  | .hbm, ⟨27, _⟩ => ⟨S12288x16384, .fp8e4m3⟩
  | .hbm, ⟨28, _⟩ => ⟨S12288x1, .f32⟩
  | .local _ .vmem, ⟨0, _⟩ => ⟨S12288x16384, .bf16⟩
  | .local _ .vmem, ⟨1, _⟩ => ⟨S1x16384, .f32⟩
  | .local _ .vmem, ⟨2, _⟩ => ⟨S16384x2304, .fp8e4m3⟩
  | .local _ .vmem, ⟨3, _⟩ => ⟨S1x2304, .f32⟩
  | .local _ .vmem, ⟨4, _⟩ => ⟨S12288x1, .i32⟩
  | .local _ .vmem, ⟨5, _⟩ => ⟨S1x64, .f32⟩
  | .local _ .vmem, ⟨6, _⟩ => ⟨S12288x2048, .bf16⟩
  | .local _ .vmem, ⟨7, _⟩ => ⟨S12288x128, .bf16⟩
  | .local _ .vmem, ⟨8, _⟩ => ⟨S12288x128, .bf16⟩
  | .local _ .vmem, ⟨9, _⟩ => ⟨S12288x16384, .fp8e4m3⟩
  | .local _ .vmem, ⟨10, _⟩ => ⟨S12288x1, .f32⟩
  | _, _ => ⟨S4x3072x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12288x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x16384 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Exponent.lean ====
/-
  THE EXPONENT OF A ROW'S SCALE, over the extended reals. The kernel finds the exponent of a row's largest magnitude by
  counting how many of the 256 powers of two `2^(k - 127)` it reaches, and makes `2^e` and `2^(-e)` by writing an
  exponent field. The reference takes the floor of a base-two logarithm and two powers. This file proves that the two
  scales are one number, and that their reciprocals are one number.
-/
module

public import Idealize.ShloMosaic.Lib.IndicatorCount
public import Idealize.ShloMosaic.Lib.IdealHost
public import Idealize.ShloMosaic.Lib.Pointwise

@[expose] public section

noncomputable section

namespace Cert.Exponent

open Idealize.ShloMosaic

/-! ## Constants -/

/-- The pattern of 2. -/
theorem two_bits : Ideal.ofBits .f32 0x40000000#32 = ((2 : ℝ) : EReal) := by
  simp [Ideal.ofBits, Ideal.ieee, -EReal.coe_mul]; norm_num

/-- The pattern of 126. -/
theorem hi_bits : Ideal.ofBits .f32 0x42FC0000#32 = ((126 : ℝ) : EReal) := by
  simp [Ideal.ofBits, Ideal.ieee, -EReal.coe_mul]; norm_num

/-- The pattern of -126. -/
theorem lo_bits : Ideal.ofBits .f32 0xC2FC0000#32 = ((-126 : ℝ) : EReal) := by
  simp [Ideal.ofBits, Ideal.ieee, -EReal.coe_mul, -EReal.coe_neg]; norm_num

/-- The pattern of 16384. -/
theorem width_bits : Ideal.ofBits .f32 0x46800000#32 = ((16384 : ℝ) : EReal) := by
  simp [Ideal.ofBits, Ideal.ieee, -EReal.coe_mul]; norm_num

/-- The pattern of 1/16384. -/
theorem inv_width_bits : Ideal.ofBits .f32 0x38800000#32 = (((16384 : ℝ)⁻¹ : ℝ) : EReal) := by
  simp [Ideal.ofBits, Ideal.ieee, -EReal.coe_mul]; norm_num

/-- The pattern of minus infinity. -/
theorem bot_bits : Ideal.ofBits .f32 0xFF800000#32 = (⊥ : EReal) := by
  simp [Ideal.ofBits, Ideal.ieee]

/-- The pattern of the factor 1/448 (rounded) is a positive real. -/
theorem factor_bits : ∃ c : ℝ, 0 < c ∧ Ideal.ofBits .f32 0x3B124925#32 = (c : EReal) := by
  refine ⟨_, ?_, by simp [Ideal.ofBits, Ideal.ieee, -EReal.coe_mul]; rfl⟩
  positivity

/-- A quotient by 16384 is a product with 1/16384. -/
theorem mean_eq (s : EReal) :
    Ideal.div s (Ideal.ofBits .f32 0x46800000#32) = s * Ideal.ofBits .f32 0x38800000#32 := by
  rw [width_bits, inv_width_bits, Ideal.div, if_neg (by exact_mod_cast (by norm_num : (16384 : ℝ) ≠ 0)), EReal.coe_inv]

/-! ## The powers of two the kernel compares with -/

/-- The word of the `k`-th power: `k` in the exponent field. -/
abbrev powerWord (k : BitVec 32) : BitVec 32 := IntOp.shli ArithUnit.vector k 23#32

/-- The fields of the `k`-th power's word: sign clear, exponent `k`, significand zero. -/
theorem powerWord_fields : ∀ k : Fin 256, ((powerWord (BitVec.ofNat 32 k)).extractLsb' 31 1 == 1#1) = false
    ∧ ((powerWord (BitVec.ofNat 32 k)).extractLsb' 23 8).toNat = k
    ∧ ((powerWord (BitVec.ofNat 32 k)).extractLsb' 0 23).toNat = 0 := by
  decide +kernel

/-- What the word with `k` in its exponent field denotes. -/
theorem power_value (k : ℕ) (hk : k < 256) : Ideal.ofBits .f32 (powerWord (BitVec.ofNat 32 k))
    = if k = 255 then ⊤ else if k = 0 then 0 else (((2 : ℝ) ^ ((k : ℤ) - 127) : ℝ) : EReal) := by
  obtain ⟨h1, h2, h3⟩ := powerWord_fields ⟨k, hk⟩
  simp only at h1 h2 h3
  have h23 : (2 : ℝ) ^ ((k : ℤ) - 127) = 2 ^ 23 * (2 : ℝ) ^ ((k : ℤ) - 127 - 23) := by
    have e : (k : ℤ) - 127 = 23 + ((k : ℤ) - 127 - 23) := by omega
    rw [e, zpow_add₀ (by norm_num), ← e]
    norm_num
  show Ideal.ieee 8 23 (powerWord (BitVec.ofNat 32 k)) = _
  unfold Ideal.ieee
  simp only [Nat.reduceAdd, h1, h2, h3]
  by_cases h255 : k = 255
  · simp [h255]
  by_cases h0 : k = 0
  · simp [h0]
  · rw [if_neg (by norm_num; omega), if_neg h0, if_neg h255, if_neg h0, h23]
    norm_num

/-- Between 1 and 254 the word denotes a power of two. -/
theorem power_value_mid (k : ℕ) (h1 : 1 ≤ k) (h2 : k ≤ 254) : Ideal.ofBits .f32 (powerWord (BitVec.ofNat 32 k))
    = (((2 : ℝ) ^ ((k : ℤ) - 127) : ℝ) : EReal) := by
  rw [power_value k (by omega), if_neg (by omega), if_neg (by omega)]

/-! ## The kernel's exponent -/

/-- The kernel's count of the powers of two that `y` reaches. -/
def count (y : EReal) : BitVec 32 :=
  Finset.univ.fold IntOp.addi (0#32) fun k : Fin 256 =>
    BitVec.setWidth 32 (BitVec.ofBool (decide (Ideal.ofBits .f32 (powerWord (BitVec.ofNat 32 ↑k)) ≤ y)))

/-- The kernel's exponent for a row whose largest magnitude is `a`. -/
def word (a : EReal) : BitVec 32 :=
  if a = 0 then 0#32
  else IntOp.minsi (IntOp.subi (count (a * Ideal.ofBits .f32 0x3B124925#32)) 127#32) 126#32

/-- The reference's exponent for a row whose largest magnitude is `a`. -/
def level (a : EReal) : EReal :=
  if a = 0 then 0
  else min (Ideal.ofBits .f32 0x42FC0000#32) (max (Ideal.ofBits .f32 0xC2FC0000#32)
    (Ideal.liftRound Int.floor (Ideal.div (Ideal.log (a * Ideal.ofBits .f32 0x3B124925#32))
      (Ideal.log (Ideal.ofBits .f32 0x40000000#32))) + 1))

/-- The count of the powers, where exactly the first `n` are reached. -/
theorem count_eq (y : EReal) (n : ℕ) (hn : n ≤ 256)
    (h : ∀ k : Fin 256, Ideal.ofBits .f32 (powerWord (BitVec.ofNat 32 ↑k)) ≤ y ↔ (k : ℕ) < n) :
    count y = BitVec.ofNat 32 n := by
  unfold count
  rw [IndicatorCount.fold_addi_setWidth_eq_card]
  congr 1
  have e : (Finset.univ.filter fun k : Fin 256 =>
      BitVec.ofBool (decide (Ideal.ofBits .f32 (powerWord (BitVec.ofNat 32 ↑k)) ≤ y)) = 1#1)
      = Finset.univ.filter fun k : Fin 256 => (k : ℕ) < n := by
    apply Finset.filter_congr
    intro k _
    rw [← h k]
    by_cases hk : Ideal.ofBits .f32 (powerWord (BitVec.ofNat 32 ↑k)) ≤ y <;> simp [hk]
  rw [e, Fin.card_filter_val_lt]
  omega

/-- Every power is reached by plus infinity. -/
theorem count_top : count ⊤ = BitVec.ofNat 32 256 :=
  count_eq ⊤ 256 le_rfl fun k => ⟨fun _ => k.isLt, fun _ => le_top⟩

/-- A positive real reaches zero and the powers of two up to the floor of its base-two logarithm. -/
theorem count_coe (y : ℝ) (hy : 0 < y) :
    count (y : EReal) = BitVec.ofNat 32 (max 1 (min 255 (⌊Real.log y / Real.log 2⌋ + 128))).toNat := by
  refine count_eq _ _ (by omega) fun k => ?_
  have hl2 : 0 < Real.log 2 := Real.log_pos (by norm_num)
  rw [power_value k k.isLt]
  by_cases h255 : (k : ℕ) = 255
  · rw [if_pos h255]
    constructor
    · intro h; exact absurd h (by simp)
    · intro h; omega
  rw [if_neg h255]
  by_cases h0 : (k : ℕ) = 0
  · rw [if_pos h0]
    constructor
    · intro _; omega
    · intro _; exact_mod_cast hy.le
  rw [if_neg h0, EReal.coe_le_coe_iff]
  have key : (2 : ℝ) ^ (((k : ℕ) : ℤ) - 127) ≤ y ↔ ((k : ℕ) : ℤ) - 127 ≤ ⌊Real.log y / Real.log 2⌋ := by
    rw [Int.le_floor, le_div_iff₀ hl2, ← Real.log_zpow, Real.log_le_log_iff (by positivity) hy]
  rw [key]
  have := k.isLt
  omega

/-- The kernel's bit arithmetic at a count of `n`: the exponent field of the scale and of its reciprocal. -/
theorem word_fields : ∀ n : Fin 257, 1 ≤ (n : ℕ) →
    IntOp.addi (IntOp.minsi (IntOp.subi (BitVec.ofNat 32 n) 127#32) 126#32) 127#32 = BitVec.ofNat 32 (min n 253)
    ∧ IntOp.addi (IntOp.subi (0#32) (IntOp.minsi (IntOp.subi (BitVec.ofNat 32 n) 127#32) 126#32)) 127#32
      = BitVec.ofNat 32 (254 - min n 253) := by
  decide +kernel

/-- The two exponents are one integer between -126 and 126: `n - 127`, for `n` the exponent field of the scale. -/
theorem exists_field (a : EReal) (ha : 0 ≤ a) : ∃ n : ℕ, 1 ≤ n ∧ n ≤ 253
    ∧ IntOp.addi (word a) 127#32 = BitVec.ofNat 32 n
    ∧ IntOp.addi (IntOp.subi (0#32) (word a)) 127#32 = BitVec.ofNat 32 (254 - n)
    ∧ level a = ((((n : ℤ) - 127 : ℤ) : ℝ) : EReal) := by
  obtain ⟨c, hc, hcb⟩ := factor_bits
  have hl2 : 0 < Real.log 2 := Real.log_pos (by norm_num)
  have hlog2 : Ideal.log ((2 : ℝ) : EReal) = ((Real.log 2 : ℝ) : EReal) := by
    rw [Ideal.log_coe, if_neg (by norm_num)]
  have hl0 : ((Real.log 2 : ℝ) : EReal) ≠ 0 := by exact_mod_cast hl2.ne'
  by_cases h0 : a = 0
  · refine ⟨127, by omega, by omega, ?_, ?_, ?_⟩
    · rw [word, if_pos h0]; decide
    · rw [word, if_pos h0]; decide
    · rw [level, if_pos h0]; simp
  rcases eq_or_ne a ⊤ with rfl | htop
  · have hy : (⊤ : EReal) * Ideal.ofBits .f32 0x3B124925#32 = ⊤ := by
      rw [hcb]; exact EReal.top_mul_coe_of_pos hc
    refine ⟨253, by omega, by omega, ?_, ?_, ?_⟩
    · rw [word, if_neg h0, hy, count_top]; decide
    · rw [word, if_neg h0, hy, count_top]; decide
    · rw [level, if_neg h0, hy, two_bits, hlog2, hi_bits, lo_bits, Ideal.log_top, Ideal.div, if_neg hl0,
        ← EReal.coe_inv, EReal.top_mul_coe_of_pos (by positivity), Ideal.liftRound_top]
      rw [EReal.top_add_of_ne_bot (by decide), max_eq_right le_top, min_eq_left le_top]
      norm_num
  · lift a to ℝ using ⟨htop, fun h => by rw [h] at ha; exact absurd ha (by simp)⟩
    have ha0 : 0 < a := lt_of_le_of_ne (by exact_mod_cast ha) fun h => h0 (by rw [← h]; rfl)
    have hy : (a : EReal) * Ideal.ofBits .f32 0x3B124925#32 = ((a * c : ℝ) : EReal) := by
      rw [hcb]; norm_cast
    have hyp : 0 < a * c := mul_pos ha0 hc
    generalize hf : ⌊Real.log (a * c) / Real.log 2⌋ = f
    have hcount := count_coe (a * c) hyp
    rw [hf] at hcount
    obtain ⟨n, hn⟩ : ∃ n : ℕ, n = (max 1 (min 255 (f + 128))).toNat := ⟨_, rfl⟩
    rw [← hn] at hcount
    have hb := word_fields ⟨n, by omega⟩ (by simp only; omega)
    simp only at hb
    refine ⟨min n 253, by omega, by omega, ?_, ?_, ?_⟩
    · rw [word, if_neg h0, hy, hcount]; exact hb.1
    · rw [word, if_neg h0, hy, hcount]; exact hb.2
    · rw [level, if_neg h0, hy, two_bits, hlog2, hi_bits, lo_bits, Ideal.log_coe, if_neg (not_le.2 hyp), Ideal.div,
        if_neg hl0, ← EReal.coe_inv, ← EReal.coe_mul, ← div_eq_mul_inv, Ideal.liftRound_coe, hf]
      have hn' : ((min n 253 : ℕ) : ℤ) - 127 = min 126 (max (-126) (f + 1)) := by omega
      have hm := EReal.coe_strictMono.monotone
      rw [hn', Int.cast_min, Int.cast_max, hm.map_min, hm.map_max]
      push_cast
      rfl

/-- The kernel's scale is the reference's: the word with the exponent field `e + 127` is `2^e`. -/
theorem scale_eq (a : EReal) (ha : 0 ≤ a) :
    Ideal.ofBits .f32 (powerWord (IntOp.addi (word a) 127#32)) = Ideal.exp2 (level a) := by
  obtain ⟨n, h1, h2, hs, _, hl⟩ := exists_field a ha
  rw [hs, hl, power_value_mid n h1 (by omega), Ideal.exp2_coe]
  congr 1
  exact (Real.rpow_intCast 2 _).symm

/-- The kernel's reciprocal of the scale is the reference's. -/
theorem inv_eq (a : EReal) (ha : 0 ≤ a) :
    Ideal.ofBits .f32 (powerWord (IntOp.addi (IntOp.subi (0#32) (word a)) 127#32)) = Ideal.exp2 (0 - level a) := by
  obtain ⟨n, h1, h2, _, hi, hl⟩ := exists_field a ha
  rw [hi, hl, power_value_mid (254 - n) (by omega) (by omega), zero_sub, ← EReal.coe_neg, Ideal.exp2_coe]
  congr 1
  have : ((254 - n : ℕ) : ℤ) - 127 = -((n : ℤ) - 127) := by omega
  rw [this]
  have h := (Real.rpow_intCast 2 (-((n : ℤ) - 127))).symm
  rw [Int.cast_neg] at h
  exact h

end Cert.Exponent

end

end
-- ==== Proof.Spec.lean ====
/-
  THE FIVE RESULTS AS FUNCTIONS OF ARRAYS, over the extended reals. `norm` is a normalized row, `peak` its largest
  magnitude, `step` its scale, `code` its scaled and clipped elements, `proj` one element of the projection, `turn` the
  rotation of a head. The five functions at the end read each result at a row and a lane. Both programs are shown to
  leave these.
-/
module

public import proofs.«01_k».proof.Proof.Exponent

@[expose] public section

noncomputable section

namespace Cert.Spec

open Idealize.ShloMosaic Cert.Exponent

/-! ## One row -/

/-- The row divided by the root of its mean square, times the gain. -/
def norm (x g : Fin 16384 → EReal) (l : Fin 16384) : EReal :=
  x l * Ideal.rsqrt ((∑ k, x k * x k) * Ideal.ofBits .f32 0x38800000#32 + Ideal.ofBits .f32 0x358637BD#32) * g l

/-- The row's largest magnitude. -/
def peak (h : Fin 16384 → EReal) : EReal :=
  Finset.fold max (Ideal.ofBits .f32 0xFF800000#32) (fun k => FloatOps.absf (F := Ideal) (φ := .f32) (h k)) Finset.univ

/-- The row's scale, a power of two. -/
def step (h : Fin 16384 → EReal) : EReal := Ideal.exp2 (level (peak h))

/-- An element of the row over the scale, clipped to ±448. -/
def code (h : Fin 16384 → EReal) (l : Fin 16384) : EReal :=
  min (Ideal.ofBits .f32 0x43E00000#32)
    (max (Ideal.ofBits .f32 0xC3E00000#32) (h l * Ideal.exp2 (0 - level (peak h))))

/-- The row's codes against a column of weights, times the two scales. -/
def proj (h w : Fin 16384 → EReal) (s : EReal) : EReal := (∑ k, code h k * w k) * step h * s

/-- The angle at a position, for one frequency. -/
def angle (p : BitVec 32) (f : EReal) : EReal := FloatOps.sitofp (F := Ideal) .f32 p * f

/-- A head of 128 lanes rotated: lane `j` and lane `64 + j` turn by the angle of frequency `j`. -/
def turn (t : Fin 128 → EReal) (p : BitVec 32) (f : Fin 64 → EReal) (l : Fin 128) : EReal :=
  if h : l.val < 64 then
    t l * Ideal.cos (angle p (f ⟨l.val, h⟩)) - t ⟨l.val + 64, by omega⟩ * Ideal.sin (angle p (f ⟨l.val, h⟩))
  else
    t l * Ideal.cos (angle p (f ⟨l.val - 64, by omega⟩))
      + t ⟨l.val - 64, by omega⟩ * Ideal.sin (angle p (f ⟨l.val - 64, by omega⟩))

/-- A largest magnitude is not negative. -/
theorem peak_nonneg (h : Fin 16384 → EReal) : 0 ≤ peak h := by
  have h1 : FloatOps.absf (F := Ideal) (φ := .f32) (h 0) ≤ peak h :=
    (Finset.le_fold_max _).2 (Or.inr ⟨0, Finset.mem_univ _, le_rfl⟩)
  refine le_trans ?_ h1
  show (0 : EReal) ≤ max (h 0) (-(h 0))
  rcases le_total 0 (h 0) with h0 | h0
  · exact le_max_of_le_left h0
  · exact le_max_of_le_right (EReal.neg_nonneg.2 h0)

/-- The rotation written with one product per half: each lane times its cosine, plus the lane 64 away times the sine,
    whose sign is turned in the first half. -/
theorem turn_signed (t : Fin 128 → EReal) (p : BitVec 32) (f : Fin 64 → EReal) (f' : Fin 128 → EReal)
    (hf : ∀ j : Fin 128, f' j = f ⟨j.val % 64, Nat.mod_lt _ (by norm_num)⟩) (l : Fin 128) :
    t l * Ideal.cos (angle p (f' l))
      + t ⟨(l.val + 128 - 64) % 128, Nat.mod_lt _ (by norm_num)⟩
        * (if l.val < 64 then 0 - Ideal.sin (angle p (f' l)) else Ideal.sin (angle p (f' l))) = turn t p f l := by
  unfold turn
  rw [hf]
  by_cases h : l.val < 64
  · rw [dif_pos h, if_pos h, zero_sub, mul_neg, ← sub_eq_add_neg]
    have e1 : (⟨l.val % 64, Nat.mod_lt _ (by norm_num)⟩ : Fin 64) = ⟨l.val, h⟩ := Fin.ext (Nat.mod_eq_of_lt h)
    have e2 : (⟨(l.val + 128 - 64) % 128, Nat.mod_lt _ (by norm_num)⟩ : Fin 128) = ⟨l.val + 64, by omega⟩ :=
      Fin.ext (by show (l.val + 128 - 64) % 128 = l.val + 64; omega)
    rw [e1, e2]
  · rw [dif_neg h, if_neg h]
    have e1 : (⟨l.val % 64, Nat.mod_lt _ (by norm_num)⟩ : Fin 64) = ⟨l.val - 64, by omega⟩ :=
      Fin.ext (by show l.val % 64 = l.val - 64; omega)
    have e2 : (⟨(l.val + 128 - 64) % 128, Nat.mod_lt _ (by norm_num)⟩ : Fin 128) = ⟨l.val - 64, by omega⟩ :=
      Fin.ext (by show (l.val + 128 - 64) % 128 = l.val - 64; omega)
    rw [e1, e2]

/-! ## The results, for `n` rows -/

variable {n : ℕ} (X : (⟨2, ![n, 16384]⟩ : Shape).Idx → EReal) (G : (⟨2, ![1, 16384]⟩ : Shape).Idx → EReal)
  (W : (⟨2, ![16384, 2304]⟩ : Shape).Idx → EReal) (S : (⟨2, ![1, 2304]⟩ : Shape).Idx → EReal)
  (P : (⟨2, ![n, 1]⟩ : Shape).Idx → BitVec 32) (f : Fin 64 → EReal)

/-- Row `r` normalized. -/
def normRow (r : Fin n) : Fin 16384 → EReal := norm (fun k => X (ix2 r k)) (fun k => G (ix2 0 k))

/-- The projection at row `r`, lane `j`. -/
def qkvAt (r : Fin n) (j : Fin 2304) : EReal := proj (normRow X G r) (fun k => W (ix2 k j)) (S (ix2 0 j))

/-- The scale of row `r`. -/
def scaleAt (r : Fin n) : EReal := step (normRow X G r)

/-- The code at row `r`, lane `l`. -/
def codeAt (r : Fin n) (l : Fin 16384) : EReal := code (normRow X G r) l

/-- The head of 128 lanes of the projection that starts at lane `o`, rotated, at row `r` and its lane `l`. -/
def headAt (o : ℕ) (ho : o + 128 ≤ 2304) (r : Fin n) (l : Fin 128) : EReal :=
  turn (fun j => qkvAt X G W S r ⟨o + j.val, by omega⟩) (P (ix2 r 0)) f l

/-- The rotated query at row `r`, lane `l`: lane `l % 128` of head `l / 128`. -/
def queryAt (r : Fin n) (l : Fin 2048) : EReal :=
  headAt X G W S P f (128 * (l.val / 128)) (by omega) r ⟨l.val % 128, Nat.mod_lt _ (by norm_num)⟩

/-- The rotated query at a lane that lies in the head starting at lane `o`. -/
theorem queryAt_eq (r : Fin n) (l : Fin 2048) (o : ℕ) (ho : o + 128 ≤ 2304) (h128 : o % 128 = 0) (j : Fin 128)
    (hl : l.val = o + j.val) : queryAt X G W S P f r l = headAt X G W S P f o ho r j := by
  have e1 : 128 * (l.val / 128) = o := by omega
  have e2 : (⟨l.val % 128, Nat.mod_lt _ (by norm_num)⟩ : Fin 128) = j := Fin.ext (by show l.val % 128 = j.val; omega)
  unfold queryAt
  subst e1
  rw [e2]

/-- The rotated key at row `r`, lane `l`. -/
def keyAt (r : Fin n) (l : Fin 128) : EReal := headAt X G W S P f 2048 (by norm_num) r l

/-- The value at row `r`, lane `l`. -/
def valueAt (r : Fin n) (l : Fin 128) : EReal := qkvAt X G W S r ⟨2176 + l.val, by omega⟩

/-! ## A block's rows are rows of the array -/

section Rows

variable {N : ℕ} (X' : (⟨2, ![N, 16384]⟩ : Shape).Idx → EReal) (P' : (⟨2, ![N, 1]⟩ : Shape).Idx → BitVec 32)
  (r : Fin n) (R : Fin N) (hX : ∀ k, X (ix2 r k) = X' (ix2 R k)) (hP : P (ix2 r 0) = P' (ix2 R 0))

include hX

/-- The normalised row of row `r` of one array is that of row `R` of another with the same row there. -/
theorem normRow_congr : normRow X G r = normRow X' G R := by
  unfold normRow
  simp only [hX]

/-- The scale of row `r` of one array is that of row `R` of another with the same row there. -/
theorem scaleAt_congr : scaleAt X G r = scaleAt X' G R := by
  unfold scaleAt
  rw [normRow_congr X G X' r R hX]

/-- The code of row `r` of one array is that of row `R` of another with the same row there. -/
theorem codeAt_congr (l : Fin 16384) : codeAt X G r l = codeAt X' G R l := by
  unfold codeAt
  rw [normRow_congr X G X' r R hX]

/-- The projection of row `r` of one array is that of row `R` of another with the same row there. -/
theorem qkvAt_congr (j : Fin 2304) : qkvAt X G W S r j = qkvAt X' G W S R j := by
  unfold qkvAt
  rw [normRow_congr X G X' r R hX]

/-- The value of row `r` of one array is that of row `R` of another with the same row there. -/
theorem valueAt_congr (l : Fin 128) : valueAt X G W S r l = valueAt X' G W S R l :=
  qkvAt_congr X G W S X' r R hX _

include hP

/-- The rotated head of row `r` of one array is that of row `R` of another with the same row there. -/
theorem headAt_congr (o : ℕ) (ho : o + 128 ≤ 2304) (l : Fin 128) :
    headAt X G W S P f o ho r l = headAt X' G W S P' f o ho R l := by
  unfold headAt
  simp only [qkvAt_congr X G W S X' r R hX, hP]

/-- The query of row `r` of one array is that of row `R` of another with the same row there. -/
theorem queryAt_congr (l : Fin 2048) : queryAt X G W S P f r l = queryAt X' G W S P' f R l :=
  headAt_congr X G W S P f X' P' r R hX hP _ _ _

/-- The key of row `r` of one array is that of row `R` of another with the same row there. -/
theorem keyAt_congr (l : Fin 128) : keyAt X G W S P f r l = keyAt X' G W S P' f R l :=
  headAt_congr X G W S P f X' P' r R hX hP _ _ _

end Rows

end Cert.Spec
end
end
-- ==== Proof.KernelRows.lean ====
/-
  THE KERNEL'S VECTOR EXPRESSIONS AT AN INDEX: each value of the kernel's body, read at a row and a lane of its block, is
  the row function of Spec.lean.
-/
module

public import proofs.«01_k».proof.Proof.Gen.KernelIdeal.Skeleton
public import proofs.«01_k».proof.Proof.Spec

@[expose] public section

set_option maxRecDepth 16384

noncomputable section

namespace Cert.KernelIdeal.Rows

open Idealize.ShloMosaic Cert.KernelIdeal Cert.KernelIdeal.Gen Cert.Exponent Cert.Spec

/-- The normalized row. -/
theorem norm_at (x : FVec Ideal S128x16384 .bf16) (g : FVec Ideal S1x16384 .f32) (r : Fin 128) (l : Fin 16384) :
    k0_pay3 (F := Ideal) x g (ix2 r l) = normRow x g r l := by
  unfold normRow Spec.norm
  pointwise [k0_pay3]

/-- A row's largest magnitude. -/
theorem peak_at (H : FVec Ideal S128x16384 .f32) (r : Fin 128) :
    shapeCast S128x1 (multiReduction .maximumf [1] S128 (absf H) 0xFF800000#32 reduces_S128x16384_S128 (.inl rfl) rfl
      : FVec Ideal S128 .f32) shapeCasts_S128_S128x1 (ix2 r 0) = peak (fun k => H (ix2 r k)) := by
  unfold peak
  pointwise []

/-- How many of the powers of two a row's magnitude reaches. -/
theorem count_at (y : FVec Ideal S128x1 .f32) (r : Fin 128) :
    shapeCast S128x1 (multiReductionI .add [1] S128 (extui 32 (cmpf .oge (broadcastTo S128x256 y broadcasts_S128x1_S128x256)
      (bitcastToFloat .f32 (shli (iota .tc S128x256 32 [1] iota_S128x256_d1_w32) (broadcast S128x256 23#32)) : FVec Ideal S128x256 .f32))
        natLt_1_32) 0#32 reduces_S128x256_S128 rfl) shapeCasts_S128_S128x1 (ix2 r 0) = Exponent.count (y (ix2 r 0)) := by
  unfold Exponent.count
  pointwise []

/-- The exponent, from the largest magnitudes and the counts. -/
theorem word_of (a : FVec Ideal S128x1 .f32) (c : IVec S128x1 32) (r : Fin 128) :
    select (cmpf .oeq a (broadcast S128x1 (Scalar.ofBits .f32 0x00000000#32 : Ideal .f32))) (broadcast S128x1 0#32)
      (minsi (subi c (broadcast S128x1 127#32)) (broadcast S128x1 126#32)) (ix2 r 0)
      = if a (ix2 r 0) = 0 then 0#32 else IntOp.minsi (IntOp.subi (c (ix2 r 0)) 127#32) 126#32 := by
  pointwise []

/-- A product with the factor. -/
theorem factor_at (a : FVec Ideal S128x1 .f32) (r : Fin 128) :
    mulf a (broadcast S128x1 (Scalar.ofBits .f32 0x3B124925#32 : Ideal .f32)) (ix2 r 0)
      = a (ix2 r 0) * Ideal.ofBits .f32 0x3B124925#32 := rfl

/-- The exponent of the row's scale. -/
theorem word_at (x : FVec Ideal S128x16384 .bf16) (g : FVec Ideal S1x16384 .f32) (r : Fin 128) :
    k0_pay4 (F := Ideal) x g (ix2 r 0) = word (peak (normRow x g r)) := by
  have hrow : normRow x g r = fun k => k0_pay3 (F := Ideal) x g (ix2 r k) := funext fun k => (norm_at x g r k).symm
  rw [hrow, ← peak_at]
  unfold word
  rw [← factor_at, ← count_at]
  unfold k0_pay4
  exact word_of _ _ r

/-- The exponent plus the bias. -/
theorem biased_at (x : FVec Ideal S128x16384 .bf16) (g : FVec Ideal S1x16384 .f32) (r : Fin 128) :
    k0_pay5 (F := Ideal) x g (ix2 r 0) = IntOp.addi (word (peak (normRow x g r))) 127#32 := by
  rw [← word_at]
  unfold k0_pay5
  generalize k0_pay4 (F := Ideal) x g = H
  pointwise []

/-- The scale. -/
theorem scale_at (x : FVec Ideal S128x16384 .bf16) (g : FVec Ideal S1x16384 .f32) (r : Fin 128) :
    k0_pay7 (F := Ideal) (k0_pay5 (F := Ideal) x g) k0_pay6 (ix2 r 0) = scaleAt x g r := by
  unfold scaleAt step
  rw [← scale_eq _ (peak_nonneg _), ← biased_at]
  generalize k0_pay5 (F := Ideal) x g = H
  pointwise [k0_pay7, k0_pay6]

/-- The code. -/
theorem code_at (x : FVec Ideal S128x16384 .bf16) (g : FVec Ideal S1x16384 .f32) (r : Fin 128) (l : Fin 16384) :
    k0_pay8 (F := Ideal) (k0_pay3 (F := Ideal) x g) (k0_pay4 (F := Ideal) x g) (ix2 r l) = codeAt x g r l := by
  unfold codeAt code
  rw [← inv_eq _ (peak_nonneg _), ← word_at, ← norm_at]
  generalize k0_pay4 (F := Ideal) x g = H
  generalize k0_pay3 (F := Ideal) x g = K
  pointwise [k0_pay8]

/-- The projection. -/
theorem qkv_at (x : FVec Ideal S128x16384 .bf16) (g : FVec Ideal S1x16384 .f32) (W : FVec Ideal S16384x2304 .fp8e4m3)
    (s : FVec Ideal S1x2304 .f32) (r : Fin 128) (j : Fin 2304) :
    k0_pay9 (F := Ideal) (k0_pay5 (F := Ideal) x g) k0_pay6
      (k0_pay8 (F := Ideal) (k0_pay3 (F := Ideal) x g) (k0_pay4 (F := Ideal) x g)) W s (ix2 r j) = qkvAt x g W s r j := by
  have hcode : ∀ k, k0_pay8 (F := Ideal) (k0_pay3 (F := Ideal) x g) (k0_pay4 (F := Ideal) x g) (ix2 r k)
      = code (normRow x g r) k := code_at x g r
  have hscale := scale_at x g r
  unfold scaleAt at hscale
  unfold qkvAt proj
  rw [← hscale]
  simp only [← hcode]
  generalize k0_pay8 (F := Ideal) (k0_pay3 (F := Ideal) x g) (k0_pay4 (F := Ideal) x g) = C
  generalize k0_pay5 (F := Ideal) x g = E
  unfold k0_pay9
  generalize k0_pay7 (F := Ideal) E k0_pay6 = D
  pointwise []

/-- The cosine. -/
theorem cos_at (p : IVec S128x1 32) (f : FVec Ideal S1x128 .f32) (r : Fin 128) (l : Fin 128) :
    k0_pay11 (F := Ideal) p f (ix2 r l) = Ideal.cos (angle (p (ix2 r 0)) (f (ix2 0 l))) := by
  unfold angle
  pointwise [k0_pay11, k0_pay10]

/-- The sine. -/
theorem sin_at (p : IVec S128x1 32) (f : FVec Ideal S1x128 .f32) (r : Fin 128) (l : Fin 128) :
    k0_pay12 (F := Ideal) p f (ix2 r l) = Ideal.sin (angle (p (ix2 r 0)) (f (ix2 0 l))) := by
  unfold angle
  pointwise [k0_pay12, k0_pay10]

end Cert.KernelIdeal.Rows
end
end
-- ==== Proof.KernelHeads.lean ====
/-
  THE KERNEL'S ROTATED HEADS AT AN INDEX. Every head is one expression over a slice of the projection (`piece`); read at a
  row and a lane it is Spec.lean's rotation of that slice.
-/
module

public import proofs.«01_k».proof.Proof.KernelRows
public import Idealize.ShloMosaic.Lib.Pipeline.ValueKit

@[expose] public section

set_option maxRecDepth 16384

noncomputable section

namespace Cert.KernelIdeal.Rows

open Idealize.ShloMosaic Cert.KernelIdeal Cert.KernelIdeal.Gen Cert.Exponent Cert.Spec

section Vocabulary

variable {F : FTy → Type} [FloatOps F]

/-- 128 lanes of the projection, from lane `o`. -/
def lanes (o : ℕ) (h : Shape.Slices S128x2304 ![0, o] S128x128) (v : FVec F S128x2304 .f32) : FVec F S128x128 .f32 :=
  extractStridedSlice S128x128 ![0, o] v h

/-- A head times the cosine, plus the head turned by 64 lanes times the signed sine. -/
def piece (U c s : FVec F S128x128 .f32) : FVec F S128x128 .bf16 :=
  truncf .bf16 (addf (mulf U c) (mulf (dynamicRotate 1 64#32 none U rotates_S128x128_d1) s)) bitsLt_bf16_f32

/-- Query head 0 is a rotated head. -/
theorem pay14_eq (v : FVec F S128x2304 .f32) (c t : FVec F S128x128 .f32) :
    k0_pay14 v c t = piece (lanes 0 slices_S128x2304_o0_0_S128x128 v) c (k0_pay13 t) := rfl

/-- Query head 1 is a rotated head. -/
theorem pay15_eq (v : FVec F S128x2304 .f32) (c t : FVec F S128x128 .f32) :
    k0_pay15 v c t = piece (lanes 128 slices_S128x2304_o0_128_S128x128 v) c (k0_pay13 t) := rfl

/-- Query head 2 is a rotated head. -/
theorem pay16_eq (v : FVec F S128x2304 .f32) (c t : FVec F S128x128 .f32) :
    k0_pay16 v c t = piece (lanes 256 slices_S128x2304_o0_256_S128x128 v) c (k0_pay13 t) := rfl

/-- Query head 3 is a rotated head. -/
theorem pay17_eq (v : FVec F S128x2304 .f32) (c t : FVec F S128x128 .f32) :
    k0_pay17 v c t = piece (lanes 384 slices_S128x2304_o0_384_S128x128 v) c (k0_pay13 t) := rfl

/-- Query head 4 is a rotated head. -/
theorem pay18_eq (v : FVec F S128x2304 .f32) (c t : FVec F S128x128 .f32) :
    k0_pay18 v c t = piece (lanes 512 slices_S128x2304_o0_512_S128x128 v) c (k0_pay13 t) := rfl

/-- Query head 5 is a rotated head. -/
theorem pay19_eq (v : FVec F S128x2304 .f32) (c t : FVec F S128x128 .f32) :
    k0_pay19 v c t = piece (lanes 640 slices_S128x2304_o0_640_S128x128 v) c t := rfl

/-- Query head 6 is a rotated head. -/
theorem pay20_eq (v : FVec F S128x2304 .f32) (c t : FVec F S128x128 .f32) :
    k0_pay20 v c t = piece (lanes 768 slices_S128x2304_o0_768_S128x128 v) c t := rfl

/-- Query head 7 is a rotated head. -/
theorem pay21_eq (v : FVec F S128x2304 .f32) (c t : FVec F S128x128 .f32) :
    k0_pay21 v c t = piece (lanes 896 slices_S128x2304_o0_896_S128x128 v) c t := rfl

/-- Query head 8 is a rotated head. -/
theorem pay22_eq (v : FVec F S128x2304 .f32) (c t : FVec F S128x128 .f32) :
    k0_pay22 v c t = piece (lanes 1024 slices_S128x2304_o0_1024_S128x128 v) c t := rfl

/-- Query head 9 is a rotated head. -/
theorem pay23_eq (v : FVec F S128x2304 .f32) (c t : FVec F S128x128 .f32) :
    k0_pay23 v c t = piece (lanes 1152 slices_S128x2304_o0_1152_S128x128 v) c t := rfl

/-- Query head 10 is a rotated head. -/
theorem pay26_eq (v : FVec F S128x2304 .f32) (c t : FVec F S128x128 .f32) :
    k0_pay26 t (k0_pay24 v) (k0_pay25 v c) = piece (lanes 1280 slices_S128x2304_o0_1280_S128x128 v) c t := rfl

/-- Query head 11 is a rotated head. -/
theorem pay27_eq (v : FVec F S128x2304 .f32) (c t : FVec F S128x128 .f32) :
    k0_pay27 v c t = piece (lanes 1408 slices_S128x2304_o0_1408_S128x128 v) c t := rfl

/-- Query head 12 is a rotated head. -/
theorem pay28_eq (v : FVec F S128x2304 .f32) (c t : FVec F S128x128 .f32) :
    k0_pay28 v c t = piece (lanes 1536 slices_S128x2304_o0_1536_S128x128 v) c t := rfl

/-- Query head 13 is a rotated head. -/
theorem pay29_eq (v : FVec F S128x2304 .f32) (c t : FVec F S128x128 .f32) :
    k0_pay29 v c t = piece (lanes 1664 slices_S128x2304_o0_1664_S128x128 v) c t := rfl

/-- Query head 14 is a rotated head. -/
theorem pay30_eq (v : FVec F S128x2304 .f32) (c t : FVec F S128x128 .f32) :
    k0_pay30 v c t = piece (lanes 1792 slices_S128x2304_o0_1792_S128x128 v) c t := rfl

/-- Query head 15 is a rotated head. -/
theorem pay31_eq (v : FVec F S128x2304 .f32) (c t : FVec F S128x128 .f32) :
    k0_pay31 v c t = piece (lanes 1920 slices_S128x2304_o0_1920_S128x128 v) c t := rfl

/-- The key is one rotated head, at lane 2048. -/
theorem pay1_eq (v : FVec F S128x2304 .f32) (c t : FVec F S128x128 .f32) :
    k0_pay1 v c t = piece (lanes 2048 slices_S128x2304_o0_2048_S128x128 v) c t := rfl

end Vocabulary

/-- A slice at an index. -/
theorem lanes_at (o : ℕ) (h : Shape.Slices S128x2304 ![0, o] S128x128) (ho : o + 128 ≤ 2304) (v : FVec Ideal S128x2304 .f32)
    (r : Fin 128) (l : Fin 128) : lanes o h v (ix2 r l) = v (ix2 r ⟨o + l.val, by omega⟩) := by
  pointwise [lanes]

/-- A rotated head at an index. -/
theorem piece_at (U c s : FVec Ideal S128x128 .f32) (r l : Fin 128) :
    piece U c s (ix2 r l) = U (ix2 r l) * c (ix2 r l)
      + U (ix2 r ⟨(l.val + 128 - 64) % 128, Nat.mod_lt _ (by norm_num)⟩) * s (ix2 r l) := by
  pointwise [piece]

/-- The mask of the first 64 lanes. -/
theorem first_half : ∀ l : Fin 128, IntOp.cmpi CmpIPredicate.slt (BitVec.ofNat 32 ↑l) 64#32
    = BitVec.ofBool (decide (l.val < 64)) := by decide +kernel

/-- The signed sine at an index. -/
theorem signed_at (s : FVec Ideal S128x128 .f32) (r l : Fin 128) :
    k0_pay13 s (ix2 r l) = if l.val < 64 then 0 - s (ix2 r l) else s (ix2 r l) := by
  pointwise [k0_pay13]
  rw [first_half l]
  by_cases h : l.val < 64
  · rw [if_pos h, decide_eq_true h]; rfl
  · rw [if_neg h, decide_eq_false h]; rfl

/-- A rotated head, from what the projection, the cosine and the sine are at a row. -/
theorem head_of (v : FVec Ideal S128x2304 .f32) (c s : FVec Ideal S128x128 .f32) (r : Fin 128) (t : Fin 128 → EReal)
    (p : BitVec 32) (f' : Fin 128 → EReal) (f : Fin 64 → EReal)
    (hf : ∀ j : Fin 128, f' j = f ⟨j.val % 64, Nat.mod_lt _ (by norm_num)⟩)
    (hc : ∀ l, c (ix2 r l) = Ideal.cos (angle p (f' l))) (hs : ∀ l, s (ix2 r l) = Ideal.sin (angle p (f' l)))
    (o : ℕ) (h : Shape.Slices S128x2304 ![0, o] S128x128) (ho : o + 128 ≤ 2304)
    (hv : ∀ j : Fin 128, v (ix2 r ⟨o + j.val, by omega⟩) = t j) (l : Fin 128) :
    piece (lanes o h v) c (k0_pay13 s) (ix2 r l) = turn t p f l := by
  rw [piece_at, signed_at, lanes_at o h ho, lanes_at o h ho, hc, hs, hv, hv]
  exact turn_signed t p f f' hf l

/-- The value at an index. -/
theorem value_at (v : FVec Ideal S128x2304 .f32) (r l : Fin 128) :
    k0_pay2 (F := Ideal) v (ix2 r l) = v (ix2 r ⟨2176 + l.val, by omega⟩) := by
  pointwise [k0_pay2]

end Cert.KernelIdeal.Rows
end
end
-- ==== Proof.KernelBlocks.lean ====
/-
  WHAT THE KERNEL LEAVES IN ITS FIVE OUTPUT BLOCKS at one grid point, read at an index: Spec.lean's results of the
  point's input blocks.
-/
module

public import proofs.«01_k».proof.Proof.KernelHeads
public import proofs.«01_k».proof.Proof.Gen.KernelIdeal.Frame

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.KernelIdeal.Rows Cert.Spec

variable (c : Dev nD) (i : grid0.Coords) (arg1 : Memref sig .tc .vmem S128x16384 .bf16) (harg1 : arg1.IsWhole) (arg2 : Memref sig .tc .vmem S1x16384 .f32) (harg2 : arg2.IsWhole) (arg3 : Memref sig .tc .vmem S16384x2304 .fp8e4m3) (harg3 : arg3.IsWhole) (arg4 : Memref sig .tc .vmem S1x2304 .f32) (harg4 : arg4.IsWhole)
  (arg5 : Memref sig .tc .vmem S128x1 .i32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S128x128 .bf16) (harg8 : arg8.IsWhole) (arg9 : Memref sig .tc .vmem S128x128 .bf16) (harg9 : arg9.IsWhole)
  (arg10 : Memref sig .tc .vmem S128x16384 .fp8e4m3) (harg10 : arg10.IsWhole) (arg11 : Memref sig .tc .vmem S128x1 .f32) (harg11 : arg11.IsWhole)
  (x0 : Vec Ideal S128x16384 .bf16) (x1 : Vec Ideal S1x16384 .f32) (x2 : Vec Ideal S16384x2304 .fp8e4m3) (x3 : Vec Ideal S1x2304 .f32) (x4 : Vec Ideal S128x1 .i32) (x5 : Vec Ideal S1x128 .f32)

/-- The scales' block. -/
theorem scale_block (r : Fin 128) : out0_A_10 (F := Ideal) c i arg1 harg1 arg2 harg2 arg3 harg3 arg4 harg4 arg5 harg5 arg6 harg6 arg7 harg7 arg8 harg8 arg9 harg9 arg10 harg10 arg11 harg11 x0 x1 x2 x3 x4 x5 (ix2 r 0) = scaleAt x0 x1 r := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp (discharger := decide) only [View.ld_unit_lit', View.canon_cons_unit_lit', View.readCov_unit_lit']
  exact scale_at x0 x1 r

/-- The codes' block. -/
theorem code_block (r : Fin 128) (l : Fin 16384) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 (ix2 r l) = codeAt x0 x1 r l := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp (discharger := decide) only [View.ld_unit_lit', View.canon_cons_unit_lit', View.readCov_unit_lit']
  exact code_at x0 x1 r l

/-- The values' block. -/
theorem value_block (r l : Fin 128) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 (ix2 r l) = valueAt x0 x1 x2 x3 r l := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp (discharger := decide) only [View.ld_unit_lit', View.canon_cons_unit_lit', View.readCov_unit_lit']
  rw [value_at]
  exact qkv_at x0 x1 x2 x3 r _

/-- A rotated head of the block's projection. -/
theorem head_block (f : Fin 64 → EReal) (hf : ∀ j : Fin 128, x5 (ix2 0 j) = f ⟨j.val % 64, Nat.mod_lt _ (by norm_num)⟩)
    (o : ℕ) (h : Shape.Slices S128x2304 ![0, o] S128x128) (ho : o + 128 ≤ 2304) (r l : Fin 128) :
    piece (lanes o h (k0_pay9 (F := Ideal) (k0_pay5 (F := Ideal) x0 x1) k0_pay6
      (k0_pay8 (F := Ideal) (k0_pay3 (F := Ideal) x0 x1) (k0_pay4 (F := Ideal) x0 x1)) x2 x3)) (k0_pay11 (F := Ideal) x4 x5)
      (k0_pay13 (k0_pay12 (F := Ideal) x4 x5)) (ix2 r l) = headAt x0 x1 x2 x3 x4 f o ho r l :=
  head_of _ _ _ r _ (x4 (ix2 r 0)) (fun j => x5 (ix2 0 j)) f hf (fun l => cos_at x4 x5 r l) (fun l => sin_at x4 x5 r l) o h ho
    (fun j => qkv_at x0 x1 x2 x3 r ⟨o + j.val, by omega⟩) l

/-- The keys' block. -/
theorem key_block (f : Fin 64 → EReal) (hf : ∀ j : Fin 128, x5 (ix2 0 j) = f ⟨j.val % 64, Nat.mod_lt _ (by norm_num)⟩)
    (r l : Fin 128) : out0_A_7 (F := Ideal) c i arg1 harg1 arg2 harg2 arg3 harg3 arg4 harg4 arg5 harg5 arg6 harg6 arg7 harg7 arg8 harg8 arg9 harg9 arg10 harg10 arg11 harg11 x0 x1 x2 x3 x4 x5 (ix2 r l) = keyAt x0 x1 x2 x3 x4 f r l := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp (discharger := decide) only [View.ld_unit_lit', View.canon_cons_unit_lit', View.readCov_unit_lit']
  rw [pay1_eq]
  exact head_block x0 x1 x2 x3 x4 x5 f hf 2048 _ (by norm_num) r l

/-- A stored head, where it holds an index of the queries' block. -/
theorem head_tile (f : Fin 64 → EReal) (hf : ∀ j : Fin 128, x5 (ix2 0 j) = f ⟨j.val % 64, Nat.mod_lt _ (by norm_num)⟩)
    (o : ℕ) (h : Shape.Slices S128x2304 ![0, o] S128x128) (ho : o + 128 ≤ 2304) (h128 : o % 128 = 0) (r : Fin 128) (l : Fin 2048) :
    View.TileAt (Val := Elt Ideal) (S := S128x2048) (e := .bf16) (ix2 r l) ![0, o] ![128, 128]
      (piece (lanes o h (k0_pay9 (F := Ideal) (k0_pay5 (F := Ideal) x0 x1) k0_pay6
        (k0_pay8 (F := Ideal) (k0_pay3 (F := Ideal) x0 x1) (k0_pay4 (F := Ideal) x0 x1)) x2 x3)) (k0_pay11 (F := Ideal) x4 x5)
        (k0_pay13 (k0_pay12 (F := Ideal) x4 x5))) (queryAt x0 x1 x2 x3 x4 f r l) := by
  intro z hz
  have h0 : r.val = 0 + (z 0).val := hz 0
  have h1 : l.val = o + (z 1).val := hz 1
  have e0 : z 0 = r := Fin.ext (by omega)
  have ez : z = ix2 r (z 1) := by rw [← e0]; exact eq_ix2 z
  rw [queryAt_eq x0 x1 x2 x3 x4 f r l o ho h128 (z 1) h1, ez]
  exact head_block x0 x1 x2 x3 x4 x5 f hf o h ho r (z 1)

/-- The queries' block: sixteen heads side by side. -/
theorem query_block (f : Fin 64 → EReal) (hf : ∀ j : Fin 128, x5 (ix2 0 j) = f ⟨j.val % 64, Nat.mod_lt _ (by norm_num)⟩)
    (r : Fin 128) (l : Fin 2048) : out0_A_6 (F := Ideal) c i arg1 harg1 arg2 harg2 arg3 harg3 arg4 harg4 arg5 harg5 arg6 harg6 arg7 harg7 arg8 harg8 arg9 harg9 arg10 harg10 arg11 harg11 x0 x1 x2 x3 x4 x5 (ix2 r l) = queryAt x0 x1 x2 x3 x4 f r l := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  simp only [View.readAt_eq_ld, harg1.read_unread, harg2.read_unread, harg3.read_unread, harg4.read_unread, harg5.read_unread, harg6.read_unread]
  simp (discharger := decide) only [View.ld_unit_lit', View.canon_cons_unit_lit', View.readCov_unit_lit']
  simp only [pay14_eq, pay15_eq, pay16_eq, pay17_eq, pay18_eq, pay19_eq, pay20_eq, pay21_eq, pay22_eq, pay23_eq, pay26_eq, pay27_eq, pay28_eq, pay29_eq, pay30_eq, pay31_eq]
  refine View.canon_eq_of_allAt _ _ _ (View.cover_of_tiled_head _ _ _ rfl _) ?_
  iterate 16 refine View.allAt_cons_unit _ _ _ _ _ (head_tile x0 x1 x2 x3 x4 x5 f hf _ _ (by norm_num) (by norm_num) r l) ?_
  exact View.allAt_nil _ _

end Cert.KernelIdeal.Block
end
end
-- ==== Proof.KernelArrays.lean ====
/-
  THE KERNEL'S FIVE RESULT ARRAYS after its run: Spec.lean's results of the six arrays the grid reads. Block `t` of a
  result is rows `128 t` to `128 t + 127`.
-/
module

public import proofs.«01_k».proof.Proof.KernelBlocks
public import proofs.«01_k».proof.Proof.Gen.KernelIdeal.Value
public import Idealize.ShloMosaic.Lib.Pipeline.ValueKit

@[expose] public section

set_option maxRecDepth 16384

noncomputable section

namespace Cert.KernelIdeal.Arrays

open Idealize.ShloMosaic Idealize.ShloMosaic.TcCoe Idealize.ShloMosaic.Tactic
open Cert.KernelIdeal Cert.KernelIdeal.Gen Cert.KernelIdeal.Block Cert.Spec

variable (m : (ℓ : Loc nD τ sig) → Buf (Elt Ideal) ℓ) (c : Dev nD)

/-- The activations, the gain, the weights, their scales, the positions and the frequencies, as the grid finds them. -/
abbrev X : S12288x16384.Idx → EReal := V m c main_v12
/-- The gain, as the grid finds them. -/
abbrev G : S1x16384.Idx → EReal := V m c main_v13
/-- The weights, as the grid finds them. -/
abbrev W : S16384x2304.Idx → EReal := V m c main_arg2
/-- The weights' scales, as the grid finds them. -/
abbrev S : S1x2304.Idx → EReal := V m c main_v14
/-- The positions, as the grid finds them. -/
abbrev P : S12288x1.Idx → BitVec 32 := V m c main_v15
/-- The frequencies, as the grid finds them. -/
abbrev Q : S1x128.Idx → EReal := V m c main_v11

/-! ## Where each window's block sits -/

/-- Window 0's block at point `t` is the `t`-th along the rows. -/
theorem idx0 : ∀ t : Fin cfg0.N, win0_0.index t = ![t.val, 0] := (by decide +kernel : ∀ t : Fin grid0.N, _)
/-- Window 1's block is the first at every point. -/
theorem idx1 : ∀ t : Fin cfg0.N, win0_1.index t = ![0, 0] := (by decide +kernel : ∀ t : Fin grid0.N, _)
/-- Window 2's block is the first at every point. -/
theorem idx2 : ∀ t : Fin cfg0.N, win0_2.index t = ![0, 0] := (by decide +kernel : ∀ t : Fin grid0.N, _)
/-- Window 3's block is the first at every point. -/
theorem idx3 : ∀ t : Fin cfg0.N, win0_3.index t = ![0, 0] := (by decide +kernel : ∀ t : Fin grid0.N, _)
/-- Window 4's block at point `t` is the `t`-th along the rows. -/
theorem idx4 : ∀ t : Fin cfg0.N, win0_4.index t = ![t.val, 0] := (by decide +kernel : ∀ t : Fin grid0.N, _)
/-- Window 5's block is the first at every point. -/
theorem idx5 : ∀ t : Fin cfg0.N, win0_5.index t = ![0, 0] := (by decide +kernel : ∀ t : Fin grid0.N, _)
/-- Window 6's block at point `t` is the `t`-th along the rows. -/
theorem idx6 : ∀ t : Fin cfg0.N, win0_6.index t = ![t.val, 0] := (by decide +kernel : ∀ t : Fin grid0.N, _)
/-- Window 7's block at point `t` is the `t`-th along the rows. -/
theorem idx7 : ∀ t : Fin cfg0.N, win0_7.index t = ![t.val, 0] := (by decide +kernel : ∀ t : Fin grid0.N, _)
/-- Window 8's block at point `t` is the `t`-th along the rows. -/
theorem idx8 : ∀ t : Fin cfg0.N, win0_8.index t = ![t.val, 0] := (by decide +kernel : ∀ t : Fin grid0.N, _)
/-- Window 9's block at point `t` is the `t`-th along the rows. -/
theorem idx9 : ∀ t : Fin cfg0.N, win0_9.index t = ![t.val, 0] := (by decide +kernel : ∀ t : Fin grid0.N, _)
/-- Window 10's block at point `t` is the `t`-th along the rows. -/
theorem idx10 : ∀ t : Fin cfg0.N, win0_10.index t = ![t.val, 0] := (by decide +kernel : ∀ t : Fin grid0.N, _)

/-- Row `r` of block `t`. -/
def rowOf (t : Fin cfg0.N) (r : Fin 128) : Fin 12288 :=
  ⟨t.val * 128 + r.val, by
    have := t.isLt
    have h : cfg0.N = 96 := by decide +kernel
    omega⟩

/-- Block `t` of the activations holds their rows `128 t` onwards. -/
theorem x_block (t : Fin cfg0.N) (r : Fin 128) (k : Fin 16384) :
    (iblk m c 0 t : S128x16384.Idx → EReal) (ix2 r k) = X m c (ix2 (rowOf t r) k) := by
  show V m c main_v12 (((cfg0.win 0).blk t).view.emb (ix2 r k)) = V m c main_v12 (ix2 (rowOf t r) k)
  congr 1
  blk_ext [idx0, rowOf]

/-- Block `t` of the positions holds their rows `128 t` onwards. -/
theorem p_block (t : Fin cfg0.N) (r : Fin 128) :
    (iblk m c 4 t : S128x1.Idx → BitVec 32) (ix2 r 0) = P m c (ix2 (rowOf t r) 0) := by
  show V m c main_v15 (((cfg0.win 4).blk t).view.emb (ix2 r 0)) = V m c main_v15 (ix2 (rowOf t r) 0)
  congr 1
  blk_ext [idx4, rowOf]

/-- The block of the gain is all of them. -/
theorem g_block (t : Fin cfg0.N) : (iblk m c 1 t : S1x16384.Idx → EReal) = G m c := by
  funext y
  show V m c main_v13 (((cfg0.win 1).blk t).view.emb y) = V m c main_v13 y
  congr 1
  blk_ext [idx1]

/-- The block of the weights is all of them. -/
theorem w_block (t : Fin cfg0.N) : (iblk m c 2 t : S16384x2304.Idx → EReal) = W m c := by
  funext y
  show V m c main_arg2 (((cfg0.win 2).blk t).view.emb y) = V m c main_arg2 y
  congr 1
  blk_ext [idx2]

/-- The block of the weights' scales is all of them. -/
theorem s_block (t : Fin cfg0.N) : (iblk m c 3 t : S1x2304.Idx → EReal) = S m c := by
  funext y
  show V m c main_v14 (((cfg0.win 3).blk t).view.emb y) = V m c main_v14 y
  congr 1
  blk_ext [idx3]

/-- The block of the frequencies is all of them. -/
theorem q_block (t : Fin cfg0.N) : (iblk m c 5 t : S1x128.Idx → EReal) = Q m c := by
  funext y
  show V m c main_v11 (((cfg0.win 5).blk t).view.emb y) = V m c main_v11 y
  congr 1
  blk_ext [idx5]

/-! ## Where each result's block sits -/

/-- An index of result window 6's block at point `t`, as an index of its array. -/
theorem emb6 (t : Fin cfg0.N) (y : S128x2048.Idx) :
    (((cfg0.win 6).blk t).view.emb y : S12288x2048.Idx) = ix2 (rowOf t (y 0)) (y 1) := by
  blk_ext [idx6, rowOf]

/-- An index of result window 7's block at point `t`, as an index of its array. -/
theorem emb7 (t : Fin cfg0.N) (y : S128x128.Idx) :
    (((cfg0.win 7).blk t).view.emb y : S12288x128.Idx) = ix2 (rowOf t (y 0)) (y 1) := by
  blk_ext [idx7, rowOf]

/-- An index of result window 8's block at point `t`, as an index of its array. -/
theorem emb8 (t : Fin cfg0.N) (y : S128x128.Idx) :
    (((cfg0.win 8).blk t).view.emb y : S12288x128.Idx) = ix2 (rowOf t (y 0)) (y 1) := by
  blk_ext [idx8, rowOf]

/-- An index of result window 9's block at point `t`, as an index of its array. -/
theorem emb9 (t : Fin cfg0.N) (y : S128x16384.Idx) :
    (((cfg0.win 9).blk t).view.emb y : S12288x16384.Idx) = ix2 (rowOf t (y 0)) (y 1) := by
  blk_ext [idx9, rowOf]

/-- An index of result window 10's block at point `t`, as an index of its array. -/
theorem emb10 (t : Fin cfg0.N) (y : S128x1.Idx) :
    (((cfg0.win 10).blk t).view.emb y : S12288x1.Idx) = ix2 (rowOf t (y 0)) (y 1) := by
  blk_ext [idx10, rowOf]

/-! ## The arrays -/

/-- The queries: sixteen rotated heads, at one point of the grid. -/
theorem query_point (f : Fin 64 → EReal)
    (hf : ∀ j : Fin 128, Q m c (ix2 0 j) = f ⟨j.val % 64, Nat.mod_lt _ (by norm_num)⟩) (t : Fin cfg0.N) (y : S128x2048.Idx) :
    (dats m 0 c).after 6 t y = queryAt (X m c) (G m c) (W m c) (S m c) (P m c) f (rowOf t (y 0)) (y 1) := by
  rw [after0_6]
  simp only [outsAt0]
  have e : y = ix2 (y 0) (y 1) := eq_ix2 y
  refine (congrArg _ e).trans ((query_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) f (fun j => by rw [q_block]; exact hf j) (y 0) (y 1)).trans ?_)
  rw [g_block, w_block, s_block]
  exact queryAt_congr _ _ _ _ _ f _ _ _ _ (x_block m c t (y 0)) (p_block m c t (y 0)) _

/-- The queries: sixteen rotated heads. -/
theorem query_array (f : Fin 64 → EReal)
    (hf : ∀ j : Fin 128, Q m c (ix2 0 j) = f ⟨j.val % 64, Nat.mod_lt _ (by norm_num)⟩) (i : S12288x2048.Idx) :
    (dats m 0 c).arrAt 6 cfg0.N i = queryAt (X m c) (G m c) (W m c) (S m c) (P m c) f (i 0) (i 1) := by
  refine (dats m 0 c).arrAt_forall_of_covers 6 (fun i v => v = queryAt (X m c) (G m c) (W m c) (S m c) (P m c) f (i 0) (i 1)) (by decide +kernel)
    (fun t hfl y => ?_) i
  show (dats m 0 c).after 6 t y = _
  rw [emb6 t y]
  exact query_point m c f hf t y

/-- The keys: one rotated head, at one point of the grid. -/
theorem key_point (f : Fin 64 → EReal)
    (hf : ∀ j : Fin 128, Q m c (ix2 0 j) = f ⟨j.val % 64, Nat.mod_lt _ (by norm_num)⟩) (t : Fin cfg0.N) (y : S128x128.Idx) :
    (dats m 0 c).after 7 t y = keyAt (X m c) (G m c) (W m c) (S m c) (P m c) f (rowOf t (y 0)) (y 1) := by
  rw [after0_7]
  simp only [outsAt0]
  have e : y = ix2 (y 0) (y 1) := eq_ix2 y
  refine (congrArg _ e).trans ((key_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) f (fun j => by rw [q_block]; exact hf j) (y 0) (y 1)).trans ?_)
  rw [g_block, w_block, s_block]
  exact keyAt_congr _ _ _ _ _ f _ _ _ _ (x_block m c t (y 0)) (p_block m c t (y 0)) _

/-- The keys: one rotated head. -/
theorem key_array (f : Fin 64 → EReal)
    (hf : ∀ j : Fin 128, Q m c (ix2 0 j) = f ⟨j.val % 64, Nat.mod_lt _ (by norm_num)⟩) (i : S12288x128.Idx) :
    (dats m 0 c).arrAt 7 cfg0.N i = keyAt (X m c) (G m c) (W m c) (S m c) (P m c) f (i 0) (i 1) := by
  refine (dats m 0 c).arrAt_forall_of_covers 7 (fun i v => v = keyAt (X m c) (G m c) (W m c) (S m c) (P m c) f (i 0) (i 1)) (by decide +kernel)
    (fun t hfl y => ?_) i
  show (dats m 0 c).after 7 t y = _
  rw [emb7 t y]
  exact key_point m c f hf t y

/-- The values, at one point of the grid. -/
theorem value_point (t : Fin cfg0.N) (y : S128x128.Idx) :
    (dats m 0 c).after 8 t y = valueAt (X m c) (G m c) (W m c) (S m c) (rowOf t (y 0)) (y 1) := by
  rw [after0_8]
  simp only [outsAt0]
  have e : y = ix2 (y 0) (y 1) := eq_ix2 y
  refine (congrArg _ e).trans ((value_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (y 0) (y 1)).trans ?_)
  rw [g_block, w_block, s_block]
  exact valueAt_congr _ _ _ _ _ _ _ (x_block m c t (y 0)) _

/-- The values. -/
theorem value_array (i : S12288x128.Idx) :
    (dats m 0 c).arrAt 8 cfg0.N i = valueAt (X m c) (G m c) (W m c) (S m c) (i 0) (i 1) := by
  refine (dats m 0 c).arrAt_forall_of_covers 8 (fun i v => v = valueAt (X m c) (G m c) (W m c) (S m c) (i 0) (i 1)) (by decide +kernel)
    (fun t hfl y => ?_) i
  show (dats m 0 c).after 8 t y = _
  rw [emb8 t y]
  exact value_point m c t y

/-- The codes, at one point of the grid. -/
theorem code_point (t : Fin cfg0.N) (y : S128x16384.Idx) :
    (dats m 0 c).after 9 t y = codeAt (X m c) (G m c) (rowOf t (y 0)) (y 1) := by
  rw [after0_9]
  simp only [outsAt0]
  have e : y = ix2 (y 0) (y 1) := eq_ix2 y
  refine (congrArg _ e).trans ((code_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (y 0) (y 1)).trans ?_)
  rw [g_block]
  exact codeAt_congr _ _ _ _ _ (x_block m c t (y 0)) _

/-- The codes. -/
theorem code_array (i : S12288x16384.Idx) :
    (dats m 0 c).arrAt 9 cfg0.N i = codeAt (X m c) (G m c) (i 0) (i 1) := by
  refine (dats m 0 c).arrAt_forall_of_covers 9 (fun i v => v = codeAt (X m c) (G m c) (i 0) (i 1)) (by decide +kernel)
    (fun t hfl y => ?_) i
  show (dats m 0 c).after 9 t y = _
  rw [emb9 t y]
  exact code_point m c t y

/-- The scales, at one point of the grid. -/
theorem scale_point (t : Fin cfg0.N) (y : S128x1.Idx) :
    (dats m 0 c).after 10 t y = scaleAt (X m c) (G m c) (rowOf t (y 0)) := by
  rw [after0_10]
  simp only [outsAt0]
  have e : y = ix2 (y 0) 0 := (eq_ix2 y).trans (congrArg (ix2 (y 0)) (Subsingleton.elim (α := Fin 1) (y 1) 0))
  refine (congrArg _ e).trans ((scale_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (y 0)).trans ?_)
  rw [g_block]
  exact scaleAt_congr _ _ _ _ _ (x_block m c t (y 0))

/-- The scales. -/
theorem scale_array (i : S12288x1.Idx) :
    (dats m 0 c).arrAt 10 cfg0.N i = scaleAt (X m c) (G m c) (i 0) := by
  refine (dats m 0 c).arrAt_forall_of_covers 10 (fun i v => v = scaleAt (X m c) (G m c) (i 0)) (by decide +kernel)
    (fun t hfl y => ?_) i
  show (dats m 0 c).after 10 t y = _
  rw [emb10 t y]
  exact scale_point m c t y

end Cert.KernelIdeal.Arrays
end
end
-- ==== Proof.ReferenceRows.lean ====
/-
  THE REFERENCE'S VECTOR EXPRESSIONS AT AN INDEX: each value of the reference's body, read at a row and a lane, is the row
  function of Spec.lean.
-/
module

public import proofs.«01_k».proof.Proof.Gen.ReferenceIdeal.Skeleton
public import proofs.«01_k».proof.Proof.Spec

@[expose] public section

set_option maxRecDepth 16384

noncomputable section

namespace Cert.ReferenceIdeal.Rows

open Idealize.ShloMosaic Cert.ReferenceIdeal Cert.ReferenceIdeal.Gen Cert.Exponent Cert.Spec

/-- The normalized row. -/
theorem norm_at (x : FVec Ideal S12288x16384 .bf16) (g : FVec Ideal S1x16384 .f32) (r : Fin 12288) (l : Fin 16384) :
    k0_pay1 (F := Ideal) x g (ix2 r l) = normRow x g r l := by
  unfold normRow Spec.norm
  simp only [← mean_eq]
  pointwise [k0_pay1]

/-- A row's largest magnitude. -/
theorem peak_at (H : FVec Ideal S12288x16384 .f32) (r : Fin 12288) :
    shapeCast S12288x1 (multiReduction .maximumf [1] S12288 (absf H) 0xFF800000#32 reduces_S12288x16384_S12288 (.inl rfl) rfl
      : FVec Ideal S12288 .f32) shapeCasts_S12288_S12288x1 (ix2 r 0) = peak (fun k => H (ix2 r k)) := by
  unfold peak
  pointwise []

/-- The exponent, from the largest magnitudes. -/
theorem level_of (a : FVec Ideal S12288x1 .f32) (r : Fin 12288) :
    select (cmpf .oeq a (broadcast S12288x1 (Scalar.ofBits .f32 0x00000000#32 : Ideal .f32)))
      (broadcast S12288x1 (Scalar.ofBits .f32 0x00000000#32 : Ideal .f32))
      (minimumf (broadcast S12288x1 (Scalar.ofBits .f32 0x42FC0000#32 : Ideal .f32))
        (maximumf (broadcast S12288x1 (Scalar.ofBits .f32 0xC2FC0000#32 : Ideal .f32))
          (addf (floor (divf (log (mulf a (broadcast S12288x1 (Scalar.ofBits .f32 0x3B124925#32 : Ideal .f32))))
            (log (broadcast S12288x1 (Scalar.ofBits .f32 0x40000000#32 : Ideal .f32)))))
            (broadcast S12288x1 (Scalar.ofBits .f32 0x3F800000#32 : Ideal .f32))))) (ix2 r 0) = level (a (ix2 r 0)) := by
  unfold level
  pointwise []

/-- The exponent of the row's scale. -/
theorem level_at (x : FVec Ideal S12288x16384 .bf16) (g : FVec Ideal S1x16384 .f32) (r : Fin 12288) :
    k0_pay2 (F := Ideal) x g (ix2 r 0) = level (peak (normRow x g r)) := by
  have hrow : normRow x g r = fun k => k0_pay1 (F := Ideal) x g (ix2 r k) := funext fun k => (norm_at x g r k).symm
  rw [hrow, ← peak_at]
  unfold k0_pay2
  exact level_of _ r

/-- An array of powers of two. -/
theorem exp2_at (H : FVec Ideal S12288x1 .f32) (r : Fin 12288) : exp2 H (ix2 r 0) = Ideal.exp2 (H (ix2 r 0)) := rfl

/-- The scale. -/
theorem scale_at (x : FVec Ideal S12288x16384 .bf16) (g : FVec Ideal S1x16384 .f32) (r : Fin 12288) :
    k0_pay3 (F := Ideal) x g (ix2 r 0) = scaleAt x g r := by
  unfold scaleAt step
  rw [← level_at]
  unfold k0_pay3
  exact exp2_at _ r

/-- Rows over powers of two. -/
theorem scaled_of (K : FVec Ideal S12288x16384 .f32) (H : FVec Ideal S12288x1 .f32) (r : Fin 12288) (l : Fin 16384) :
    mulf K (broadcastTo S12288x16384 (exp2 (subf (broadcast S12288x1 (Scalar.ofBits .f32 0x00000000#32 : Ideal .f32)) H))
      broadcasts_S12288x1_S12288x16384) (ix2 r l) = K (ix2 r l) * Ideal.exp2 (0 - H (ix2 r 0)) := by
  pointwise []
  rfl

/-- The row over its scale. -/
theorem scaled_at (x : FVec Ideal S12288x16384 .bf16) (g : FVec Ideal S1x16384 .f32) (r : Fin 12288) (l : Fin 16384) :
    k0_pay4 (F := Ideal) x g (ix2 r l) = normRow x g r l * Ideal.exp2 (0 - level (peak (normRow x g r))) := by
  rw [← level_at, ← norm_at]
  unfold k0_pay4
  exact scaled_of _ _ r l

/-- The code. -/
theorem code_at (x : FVec Ideal S12288x16384 .bf16) (g : FVec Ideal S1x16384 .f32) (r : Fin 12288) (l : Fin 16384) :
    k0_pay5 (F := Ideal) (k0_pay4 (F := Ideal) x g) (Scalar.ofBits .f32 0xC3E00000#32) (ix2 r l) = codeAt x g r l := by
  unfold codeAt code
  rw [← scaled_at]
  generalize k0_pay4 (F := Ideal) x g = H
  pointwise [k0_pay5]

/-- The projection. -/
theorem qkv_at (x : FVec Ideal S12288x16384 .bf16) (g : FVec Ideal S1x16384 .f32) (W : FVec Ideal S16384x2304 .fp8e4m3)
    (s : FVec Ideal S1x2304 .f32) (r : Fin 12288) (j : Fin 2304) :
    k0_pay6 (F := Ideal) (k0_pay3 (F := Ideal) x g) (k0_pay4 (F := Ideal) x g) (Scalar.ofBits .f32 0xC3E00000#32) W s
      (ix2 r j) = qkvAt x g W s r j := by
  have hcode : ∀ k, k0_pay5 (F := Ideal) (k0_pay4 (F := Ideal) x g) (Scalar.ofBits .f32 0xC3E00000#32) (ix2 r k)
      = code (normRow x g r) k := code_at x g r
  have hscale := scale_at x g r
  unfold scaleAt at hscale
  unfold qkvAt proj
  rw [← hscale]
  simp only [← hcode]
  unfold k0_pay6
  generalize k0_pay5 (F := Ideal) (k0_pay4 (F := Ideal) x g) (Scalar.ofBits .f32 0xC3E00000#32) = C
  generalize k0_pay3 (F := Ideal) x g = D
  pointwise []

/-- The cosine. -/
theorem cos_at (p : IVec S12288x1 32) (f : FVec Ideal S1x64 .f32) (r : Fin 12288) (l : Fin 64) :
    k0_pay8 (F := Ideal) p f (ix2 r l) = Ideal.cos (angle (p (ix2 r 0)) (f (ix2 0 l))) := by
  unfold angle
  pointwise [k0_pay8, k0_pay7]

/-- The sine. -/
theorem sin_at (p : IVec S12288x1 32) (f : FVec Ideal S1x64 .f32) (r : Fin 12288) (l : Fin 64) :
    k0_pay9 (F := Ideal) p f (ix2 r l) = Ideal.sin (angle (p (ix2 r 0)) (f (ix2 0 l))) := by
  unfold angle
  pointwise [k0_pay9, k0_pay7]

end Cert.ReferenceIdeal.Rows
end
end
-- ==== Proof.ReferenceHeads.lean ====
/-
  THE REFERENCE'S ROTATED HEADS AT AN INDEX. Every head is one expression over a slice of the projection (`piece`): the
  first 64 lanes times the cosine less the last 64 times the sine, beside the last 64 times the cosine plus the first 64
  times the sine. The query is sixteen of them side by side.
-/
module

public import proofs.«01_k».proof.Proof.ReferenceRows
public import Idealize.ShloMosaic.Lib.Pipeline.ValueKit
public import Idealize.ShloMosaic.Lib.Pipeline.Value

@[expose] public section

set_option maxRecDepth 16384

noncomputable section

namespace Cert.ReferenceIdeal.Rows

open Idealize.ShloMosaic Cert.ReferenceIdeal Cert.ReferenceIdeal.Gen Cert.Exponent Cert.Spec

section Vocabulary

variable {F : FTy → Type} [FloatOps F]

/-- 128 lanes of the projection, from lane `o`. -/
def lanes (o : ℕ) (h : Shape.Slices S12288x2304 ![0, o] S12288x128) (v : FVec F S12288x2304 .f32) : FVec F S12288x128 .f32 :=
  extractStridedSlice S12288x128 ![0, o] v h

/-- The first 64 lanes of a head. -/
def low (U : FVec F S12288x128 .f32) : FVec F S12288x64 .f32 :=
  extractStridedSlice S12288x64 ![0, 0] U slices_S12288x128_o0_0_S12288x64

/-- The last 64 lanes of a head. -/
def high (U : FVec F S12288x128 .f32) : FVec F S12288x64 .f32 :=
  extractStridedSlice S12288x64 ![0, 64] U slices_S12288x128_o0_64_S12288x64

/-- A rotated head. -/
def piece (U : FVec F S12288x128 .f32) (c s : FVec F S12288x64 .f32) : FVec F S12288x128 .bf16 :=
  truncf .bf16 (concatenate S12288x128 1 [⟨S12288x64, subf (mulf (low U) c) (mulf (high U) s)⟩,
    ⟨S12288x64, addf (mulf (high U) c) (mulf (low U) s)⟩] concatenates_S12288x64_S12288x64_S12288x128_d1) bitsLt_bf16_f32

/-- Sixteen consecutive runs of 128 lanes lie within the projection. -/
theorem slices_head : ∀ n : Fin 16, Shape.Slices S12288x2304 ![0, 128 * n.val] S12288x128 := by decide

/-- Head `n` of the query. -/
def head (v : FVec F S12288x2304 .f32) (c s : FVec F S12288x64 .f32) (n : Fin 16) : FVec F S12288x128 .bf16 :=
  piece (lanes (128 * n.val) (slices_head n) v) c s

/-- Query head 2 is a rotated head. -/
theorem pay18_eq (v : FVec F S12288x2304 .f32) (c s : FVec F S12288x64 .f32) : k0_pay18 v c s = head v c s 2 := rfl

/-- Query head 3 is a rotated head. -/
theorem pay19_eq (v : FVec F S12288x2304 .f32) (c s : FVec F S12288x64 .f32) : k0_pay19 v c s = head v c s 3 := rfl

/-- Query head 4 is a rotated head. -/
theorem pay20_eq (v : FVec F S12288x2304 .f32) (c s : FVec F S12288x64 .f32) : k0_pay20 v c s = head v c s 4 := rfl

/-- Query head 5 is a rotated head. -/
theorem pay21_eq (v : FVec F S12288x2304 .f32) (c s : FVec F S12288x64 .f32) : k0_pay21 v c s = head v c s 5 := rfl

/-- Query head 6 is a rotated head. -/
theorem pay22_eq (v : FVec F S12288x2304 .f32) (c s : FVec F S12288x64 .f32) : k0_pay22 v c s = head v c s 6 := rfl

/-- Query head 8 is a rotated head. -/
theorem pay26_eq (v : FVec F S12288x2304 .f32) (c s : FVec F S12288x64 .f32) : k0_pay26 v c s = head v c s 8 := rfl

/-- Query head 9 is a rotated head. -/
theorem pay27_eq (v : FVec F S12288x2304 .f32) (c s : FVec F S12288x64 .f32) : k0_pay27 v c s = head v c s 9 := rfl

/-- Query head 10 is a rotated head. -/
theorem pay28_eq (v : FVec F S12288x2304 .f32) (c s : FVec F S12288x64 .f32) : k0_pay28 v c s = head v c s 10 := rfl

/-- Query head 11 is a rotated head. -/
theorem pay29_eq (v : FVec F S12288x2304 .f32) (c s : FVec F S12288x64 .f32) : k0_pay29 v c s = head v c s 11 := rfl

/-- Query head 7 is a rotated head. -/
theorem pay25_eq (v : FVec F S12288x2304 .f32) (c s : FVec F S12288x64 .f32) :
    k0_pay25 c s (k0_pay23 v) (k0_pay24 v) = head v c s 7 := rfl

/-- Query head 0 is a rotated head. -/
theorem pay10_eq (a : FVec F S12288x1 .f32) (b : FVec F S12288x16384 .f32) (z : F .f32) (w : Vec F S16384x2304 .fp8e4m3)
    (d : Vec F S1x2304 .f32) (p : Vec F S12288x1 .i32) (q : Vec F S1x64 .f32) :
    k0_pay10 a b z w d p q = head (k0_pay6 a b z w d) (k0_pay8 p q) (k0_pay9 p q) 0 := rfl

/-- Query head 1 is a rotated head. -/
theorem pay17_eq (a : FVec F S12288x1 .f32) (b : FVec F S12288x16384 .f32) (z : F .f32) (w : Vec F S16384x2304 .fp8e4m3)
    (d : Vec F S1x2304 .f32) (p : Vec F S12288x1 .i32) (q : Vec F S1x64 .f32) :
    k0_pay17 (k0_pay14 a b z w d p q) (k0_pay15 a b z w d p q) (k0_pay16 a b z w d p q)
      = head (k0_pay6 a b z w d) (k0_pay8 p q) (k0_pay9 p q) 1 := rfl

/-- The key is one rotated head, at lane 2048. -/
theorem pay36_eq (v : FVec F S12288x2304 .f32) (c s : FVec F S12288x64 .f32) :
    k0_pay36 v c s = piece (lanes 2048 slices_S12288x2304_o0_2048_S12288x128 v) c s := rfl

/-- The query is its sixteen heads side by side. -/
theorem pay35_eq (v : FVec F S12288x2304 .f32) (c s : FVec F S12288x64 .f32) :
    k0_pay35 v c s (head v c s 0) (head v c s 1) (head v c s 2) (head v c s 3) (head v c s 4) (head v c s 5) (head v c s 6)
        (head v c s 7) (head v c s 8) (head v c s 9) (head v c s 10) (head v c s 11) (k0_pay31 v) (k0_pay33 v c s) (k0_pay34 v c)
      = concatenate S12288x2048 1 (List.ofFn fun n : Fin 16 => (⟨S12288x128, head v c s n⟩ : (s : Shape) × (s.Idx → F .bf16)))
          concatenates_S12288x128_S12288x128_S12288x128_S12288x128_S12288x128_S12288x128_S12288x128_S12288x128_S12288x128_S12288x128_S12288x128_S12288x128_S12288x128_S12288x128_S12288x128_S12288x128_S12288x2048_d1 :=
  rfl

end Vocabulary

/-- A slice at an index. -/
theorem lanes_at (o : ℕ) (h : Shape.Slices S12288x2304 ![0, o] S12288x128) (ho : o + 128 ≤ 2304)
    (v : FVec Ideal S12288x2304 .f32) (r : Fin 12288) (l : Fin 128) :
    lanes o h v (ix2 r l) = v (ix2 r ⟨o + l.val, by omega⟩) := by
  pointwise [lanes]

/-- The first half of a head at an index. -/
theorem low_at (U : FVec Ideal S12288x128 .f32) (r : Fin 12288) (l : Fin 64) :
    low U (ix2 r l) = U (ix2 r ⟨l.val, by omega⟩) := by
  pointwise [low]

/-- The last half of a head at an index. -/
theorem high_at (U : FVec Ideal S12288x128 .f32) (r : Fin 12288) (l : Fin 64) :
    high U (ix2 r l) = U (ix2 r ⟨64 + l.val, by omega⟩) := by
  pointwise [high]

/-- Two halves side by side, at an index. -/
theorem halves_at (A B : FVec Ideal S12288x64 .f32) (r : Fin 12288) (l : Fin 128) :
    truncf .bf16 (concatenate S12288x128 1 [⟨S12288x64, A⟩, ⟨S12288x64, B⟩]
        concatenates_S12288x64_S12288x64_S12288x128_d1) bitsLt_bf16_f32 (ix2 r l)
      = if h : l.val < 64 then A (ix2 r ⟨l.val, h⟩) else B (ix2 r ⟨l.val - 64, by omega⟩) := by
  pointwise []

/-- A rotated head at an index. -/
theorem piece_at (U : FVec Ideal S12288x128 .f32) (c s : FVec Ideal S12288x64 .f32) (r : Fin 12288) (l : Fin 128) :
    piece U c s (ix2 r l) = if h : l.val < 64 then
        U (ix2 r l) * c (ix2 r ⟨l.val, h⟩) - U (ix2 r ⟨64 + l.val, by omega⟩) * s (ix2 r ⟨l.val, h⟩)
      else U (ix2 r l) * c (ix2 r ⟨l.val - 64, by omega⟩)
        + U (ix2 r ⟨l.val - 64, by omega⟩) * s (ix2 r ⟨l.val - 64, by omega⟩) := by
  unfold piece
  rw [halves_at]
  by_cases h : l.val < 64
  · rw [dif_pos h, dif_pos h]
    show low U _ * c _ - high U _ * s _ = _
    rw [low_at, high_at]
  · rw [dif_neg h, dif_neg h]
    show high U _ * c _ + low U _ * s _ = _
    rw [low_at, high_at]
    have e : (⟨64 + (l.val - 64), by omega⟩ : Fin 128) = l := Fin.ext (by show 64 + (l.val - 64) = l.val; omega)
    rw [show (ix2 r ⟨64 + (⟨l.val - 64, by omega⟩ : Fin 64).val, by show 64 + (l.val - 64) < 128; omega⟩ : S12288x128.Idx)
      = ix2 r l from congrArg (ix2 r) e]

/-- A rotated head, from what the projection, the cosine and the sine are at a row. -/
theorem head_of (v : FVec Ideal S12288x2304 .f32) (c s : FVec Ideal S12288x64 .f32) (r : Fin 12288) (t : Fin 128 → EReal)
    (p : BitVec 32) (f : Fin 64 → EReal)
    (hc : ∀ l, c (ix2 r l) = Ideal.cos (angle p (f l))) (hs : ∀ l, s (ix2 r l) = Ideal.sin (angle p (f l)))
    (o : ℕ) (h : Shape.Slices S12288x2304 ![0, o] S12288x128) (ho : o + 128 ≤ 2304)
    (hv : ∀ j : Fin 128, v (ix2 r ⟨o + j.val, by omega⟩) = t j) (l : Fin 128) :
    piece (lanes o h v) c s (ix2 r l) = turn t p f l := by
  rw [piece_at]
  unfold turn
  by_cases hl : l.val < 64
  · rw [dif_pos hl, dif_pos hl, lanes_at o h ho, lanes_at o h ho, hc, hs, hv, hv]
    simp only [Nat.add_comm 64 l.val]
  · rw [dif_neg hl, dif_neg hl, lanes_at o h ho, lanes_at o h ho, hc, hs, hv, hv]

/-- The query at an index: lane `l % 128` of head `l / 128`. -/
theorem query_at (v : FVec Ideal S12288x2304 .f32) (c s : FVec Ideal S12288x64 .f32) (r : Fin 12288) (l : Fin 2048) :
    concatenate S12288x2048 1 (List.ofFn fun n : Fin 16 => (⟨S12288x128, head v c s n⟩ : (s : Shape) × (s.Idx → Ideal .bf16)))
          concatenates_S12288x128_S12288x128_S12288x128_S12288x128_S12288x128_S12288x128_S12288x128_S12288x128_S12288x128_S12288x128_S12288x128_S12288x128_S12288x128_S12288x128_S12288x128_S12288x128_S12288x2048_d1 (ix2 r l)
      = head v c s ⟨l.val / 128, by omega⟩ (ix2 r ⟨l.val % 128, Nat.mod_lt _ (by norm_num)⟩) := by
  refine concatenate_ofFn_apply (t := S12288x2048) (s₁ := S12288x128) (1 : Fin 2) (fun n : Fin 16 => head v c s n) _ rfl 128 rfl (ix2 r l) ⟨l.val / 128, by omega⟩ rfl
    (ix2 r ⟨l.val % 128, Nat.mod_lt _ (by norm_num)⟩) rfl fun b hb => ?_
  match b with
  | ⟨0, _⟩ => rfl
  | ⟨1, _⟩ => exact absurd rfl hb

/-- The value at an index. -/
theorem value_at (v : FVec Ideal S12288x2304 .f32) (r : Fin 12288) (l : Fin 128) :
    k0_pay37 (F := Ideal) v (ix2 r l) = v (ix2 r ⟨2176 + l.val, by omega⟩) := by
  pointwise [k0_pay37]

end Cert.ReferenceIdeal.Rows
end
end
-- ==== Proof.ReferenceBlocks.lean ====
/-
  WHAT THE REFERENCE'S ONE GRID POINT STORES, AT AN INDEX: Spec.lean's results of the six arrays it loads.
-/
module

public import proofs.«01_k».proof.Proof.ReferenceHeads
public import proofs.«01_k».proof.Proof.Gen.ReferenceIdeal.Frame

@[expose] public section

set_option maxRecDepth 16384

noncomputable section

namespace Cert.ReferenceIdeal.Block

open Idealize.ShloMosaic Cert.ReferenceIdeal Cert.ReferenceIdeal.Gen Cert.ReferenceIdeal.Rows Cert.Spec

variable (x0 : Vec Ideal S12288x16384 .bf16) (x1 : Vec Ideal S1x16384 .f32) (x2 : Vec Ideal S16384x2304 .fp8e4m3)
  (x3 : Vec Ideal S1x2304 .f32) (x4 : Vec Ideal S12288x1 .i32) (x5 : Vec Ideal S1x64 .f32)

/-- The projection the body holds. -/
theorem qkv_held (r : Fin 12288) (j : Fin 2304) :
    k0_pay40 (F := Ideal) x0 x1 x2 x3 x4 x5 (ix2 r j) = qkvAt x0 x1 x2 x3 r j := by
  unfold k0_pay40 k0_pay39 k0_pay38
  simp (discharger := decide) only [View.ld_unit_lit']
  exact qkv_at x0 x1 x2 x3 r j

/-- The cosines the body holds. -/
theorem cos_held (r : Fin 12288) (l : Fin 64) :
    k0_pay41 (F := Ideal) x0 x1 x2 x3 x4 x5 (ix2 r l) = Ideal.cos (angle (x4 (ix2 r 0)) (x5 (ix2 0 l))) := by
  unfold k0_pay41
  simp (discharger := decide) only [View.ld_unit_lit']
  exact cos_at x4 x5 r l

/-- The sines the body holds. -/
theorem sin_held (r : Fin 12288) (l : Fin 64) :
    k0_pay42 (F := Ideal) x0 x1 x2 x3 x4 x5 (ix2 r l) = Ideal.sin (angle (x4 (ix2 r 0)) (x5 (ix2 0 l))) := by
  unfold k0_pay42
  simp (discharger := decide) only [View.ld_unit_lit']
  exact sin_at x4 x5 r l

/-- The scales. -/
theorem scale_stored (r : Fin 12288) : out0_10 (F := Ideal) x0 x1 x2 x3 x4 x5 (ix2 r 0) = scaleAt x0 x1 r := by
  unfold out0_10 k0_pay38
  simp (discharger := decide) only [View.ld_unit_lit', View.canon_cons_unit_lit']
  exact scale_at x0 x1 r

/-- The codes. -/
theorem code_stored (r : Fin 12288) (l : Fin 16384) :
    out0_9 (F := Ideal) x0 x1 x2 x3 x4 x5 (ix2 r l) = codeAt x0 x1 r l := by
  unfold out0_9 k0_pay39
  simp (discharger := decide) only [View.ld_unit_lit', View.canon_cons_unit_lit']
  exact code_at x0 x1 r l

/-- The values. -/
theorem value_stored (r : Fin 12288) (l : Fin 128) :
    out0_8 (F := Ideal) x0 x1 x2 x3 x4 x5 (ix2 r l) = valueAt x0 x1 x2 x3 r l := by
  unfold out0_8
  simp (discharger := decide) only [View.canon_cons_unit_lit']
  rw [value_at]
  exact qkv_held x0 x1 x2 x3 x4 x5 r _

variable (f : Fin 64 → EReal) (hf : ∀ j : Fin 64, x5 (ix2 0 j) = f j)

include hf in
/-- A rotated head over what the body holds. -/
theorem head_held (o : ℕ) (h : Shape.Slices S12288x2304 ![0, o] S12288x128) (ho : o + 128 ≤ 2304) (r : Fin 12288) (l : Fin 128) :
    piece (lanes o h (k0_pay40 (F := Ideal) x0 x1 x2 x3 x4 x5)) (k0_pay41 x0 x1 x2 x3 x4 x5) (k0_pay42 x0 x1 x2 x3 x4 x5) (ix2 r l)
      = headAt x0 x1 x2 x3 x4 f o ho r l :=
  head_of _ _ _ r _ (x4 (ix2 r 0)) f (fun l => by rw [cos_held, hf]) (fun l => by rw [sin_held, hf]) o h ho
    (fun _ => qkv_held x0 x1 x2 x3 x4 x5 r _) l

include hf in
/-- The keys. -/
theorem key_stored (r : Fin 12288) (l : Fin 128) :
    out0_7 (F := Ideal) x0 x1 x2 x3 x4 x5 (ix2 r l) = keyAt x0 x1 x2 x3 x4 f r l := by
  unfold out0_7
  simp (discharger := decide) only [View.canon_cons_unit_lit']
  rw [pay36_eq]
  exact head_held x0 x1 x2 x3 x4 x5 f hf 2048 _ _ r l

/-- The body's first head. -/
theorem head0 : k0_pay10 (F := Ideal) (k0_pay38 x0 x1 x2 x3 x4 x5) (k0_pay39 x0 x1 x2 x3 x4 x5) (Scalar.ofBits .f32 0xC3E00000#32) (View.ld x2 r0_3) (View.ld x3 r0_4) (View.ld x4 r0_2) (View.ld x5 r0_5)
    = head (k0_pay40 x0 x1 x2 x3 x4 x5) (k0_pay41 x0 x1 x2 x3 x4 x5) (k0_pay42 x0 x1 x2 x3 x4 x5) 0 :=
  pay10_eq _ _ _ _ _ _ _

/-- The body's second head. -/
theorem head1 : k0_pay17 (k0_pay14 (F := Ideal) (k0_pay38 x0 x1 x2 x3 x4 x5) (k0_pay39 x0 x1 x2 x3 x4 x5) (Scalar.ofBits .f32 0xC3E00000#32) (View.ld x2 r0_3) (View.ld x3 r0_4) (View.ld x4 r0_2) (View.ld x5 r0_5)) (k0_pay15 (k0_pay38 x0 x1 x2 x3 x4 x5) (k0_pay39 x0 x1 x2 x3 x4 x5) (Scalar.ofBits .f32 0xC3E00000#32) (View.ld x2 r0_3) (View.ld x3 r0_4) (View.ld x4 r0_2) (View.ld x5 r0_5)) (k0_pay16 (k0_pay38 x0 x1 x2 x3 x4 x5) (k0_pay39 x0 x1 x2 x3 x4 x5) (Scalar.ofBits .f32 0xC3E00000#32) (View.ld x2 r0_3) (View.ld x3 r0_4) (View.ld x4 r0_2) (View.ld x5 r0_5))
    = head (k0_pay40 x0 x1 x2 x3 x4 x5) (k0_pay41 x0 x1 x2 x3 x4 x5) (k0_pay42 x0 x1 x2 x3 x4 x5) 1 :=
  pay17_eq _ _ _ _ _ _ _

include hf in
/-- The queries. -/
theorem query_stored (r : Fin 12288) (l : Fin 2048) :
    out0_6 (F := Ideal) x0 x1 x2 x3 x4 x5 (ix2 r l) = queryAt x0 x1 x2 x3 x4 f r l := by
  unfold out0_6
  rw [head0, head1, pay18_eq, pay19_eq, pay20_eq, pay21_eq, pay22_eq, pay25_eq, pay26_eq, pay27_eq, pay28_eq, pay29_eq, pay35_eq]
  simp (discharger := decide) only [View.canon_cons_unit_lit']
  rw [query_at]
  exact head_held x0 x1 x2 x3 x4 x5 f hf _ _ _ r _

end Cert.ReferenceIdeal.Block
end
end
-- ==== Proof.ReferenceArrays.lean ====
/-
  THE REFERENCE'S RUN AND ITS FIVE RESULT ARRAYS: after the run each result is Spec.lean's function of the six arrays its
  one grid point loads, and the arguments are unchanged.
-/
module

public import proofs.«01_k».proof.Proof.ReferenceBlocks
public import proofs.«01_k».proof.Proof.Gen.ReferenceIdeal.Frame
public import Idealize.ShloMosaic.Lib.Pipeline.ValueKit

@[expose] public section

set_option maxRecDepth 16384

noncomputable section

namespace Cert.ReferenceIdeal.Arrays

open Idealize.ShloMosaic Idealize.ShloMosaic.TcCoe Idealize.SL.Sem
open Cert.ReferenceIdeal Cert.ReferenceIdeal.Gen Cert.ReferenceIdeal.Block Cert.Spec

section Run

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v15_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v15_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v15_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v15_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v15_4) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v15_0) = (dats m 0 c).arrAt 6 cfg0.N
      ∧ r.2.mem ((c : Thread nD τ).loc main_v15_1) = (dats m 0 c).arrAt 7 cfg0.N
      ∧ r.2.mem ((c : Thread nD τ).loc main_v15_2) = (dats m 0 c).arrAt 8 cfg0.N
      ∧ r.2.mem ((c : Thread nD τ).loc main_v15_3) = (dats m 0 c).arrAt 9 cfg0.N
      ∧ r.2.mem ((c : Thread nD τ).loc main_v15_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c⟩)
    (run_main m ρ)

end Run

variable (m : (ℓ : Loc nD τ sig) → Buf (Elt Ideal) ℓ) (c : Dev nD)

/-- The activations, the gain, the weights, their scales, the positions and the frequencies, as the body finds them. -/
abbrev X : S12288x16384.Idx → EReal := V m c main_v10
/-- The gain, as the grid finds them. -/
abbrev G : S1x16384.Idx → EReal := V m c main_v11
/-- The weights, as the grid finds them. -/
abbrev W : S16384x2304.Idx → EReal := V m c main_arg2
/-- The weights' scales, as the grid finds them. -/
abbrev S : S1x2304.Idx → EReal := V m c main_v12
/-- The positions, as the grid finds them. -/
abbrev P : S12288x1.Idx → BitVec 32 := V m c main_v13
/-- The frequencies, as the grid finds them. -/
abbrev Q : S1x64.Idx → EReal := V m c main_v14

/-! ## Every window's one block is its array -/

/-- Window 0's block is the first at every point. -/
theorem idx0 : ∀ t : Fin cfg0.N, win0_0.index t = ![0, 0] := (by decide +kernel : ∀ t : Fin grid0.N, _)
/-- Window 1's block is the first at every point. -/
theorem idx1 : ∀ t : Fin cfg0.N, win0_1.index t = ![0, 0] := (by decide +kernel : ∀ t : Fin grid0.N, _)
/-- Window 2's block is the first at every point. -/
theorem idx2 : ∀ t : Fin cfg0.N, win0_2.index t = ![0, 0] := (by decide +kernel : ∀ t : Fin grid0.N, _)
/-- Window 3's block is the first at every point. -/
theorem idx3 : ∀ t : Fin cfg0.N, win0_3.index t = ![0, 0] := (by decide +kernel : ∀ t : Fin grid0.N, _)
/-- Window 4's block is the first at every point. -/
theorem idx4 : ∀ t : Fin cfg0.N, win0_4.index t = ![0, 0] := (by decide +kernel : ∀ t : Fin grid0.N, _)
/-- Window 5's block is the first at every point. -/
theorem idx5 : ∀ t : Fin cfg0.N, win0_5.index t = ![0, 0] := (by decide +kernel : ∀ t : Fin grid0.N, _)
/-- Window 6's block is the first at every point. -/
theorem idx6 : ∀ t : Fin cfg0.N, win0_6.index t = ![0, 0] := (by decide +kernel : ∀ t : Fin grid0.N, _)
/-- Window 7's block is the first at every point. -/
theorem idx7 : ∀ t : Fin cfg0.N, win0_7.index t = ![0, 0] := (by decide +kernel : ∀ t : Fin grid0.N, _)
/-- Window 8's block is the first at every point. -/
theorem idx8 : ∀ t : Fin cfg0.N, win0_8.index t = ![0, 0] := (by decide +kernel : ∀ t : Fin grid0.N, _)
/-- Window 9's block is the first at every point. -/
theorem idx9 : ∀ t : Fin cfg0.N, win0_9.index t = ![0, 0] := (by decide +kernel : ∀ t : Fin grid0.N, _)
/-- Window 10's block is the first at every point. -/
theorem idx10 : ∀ t : Fin cfg0.N, win0_10.index t = ![0, 0] := (by decide +kernel : ∀ t : Fin grid0.N, _)

/-- The block of the activations is all of them. -/
theorem x_block (t : Fin cfg0.N) : (iblk m c 0 t : S12288x16384.Idx → EReal) = X m c := by
  funext y
  show V m c main_v10 (((cfg0.win 0).blk t).view.emb y) = V m c main_v10 y
  congr 1
  blk_ext [idx0]

/-- The block of the gain is all of them. -/
theorem g_block (t : Fin cfg0.N) : (iblk m c 1 t : S1x16384.Idx → EReal) = G m c := by
  funext y
  show V m c main_v11 (((cfg0.win 1).blk t).view.emb y) = V m c main_v11 y
  congr 1
  blk_ext [idx1]

/-- The block of the weights is all of them. -/
theorem w_block (t : Fin cfg0.N) : (iblk m c 2 t : S16384x2304.Idx → EReal) = W m c := by
  funext y
  show V m c main_arg2 (((cfg0.win 2).blk t).view.emb y) = V m c main_arg2 y
  congr 1
  blk_ext [idx2]

/-- The block of the weights' scales is all of them. -/
theorem s_block (t : Fin cfg0.N) : (iblk m c 3 t : S1x2304.Idx → EReal) = S m c := by
  funext y
  show V m c main_v12 (((cfg0.win 3).blk t).view.emb y) = V m c main_v12 y
  congr 1
  blk_ext [idx3]

/-- The block of the positions is all of them. -/
theorem p_block (t : Fin cfg0.N) : (iblk m c 4 t : S12288x1.Idx → BitVec 32) = P m c := by
  funext y
  show V m c main_v13 (((cfg0.win 4).blk t).view.emb y) = V m c main_v13 y
  congr 1
  blk_ext [idx4]

/-- The block of the frequencies is all of them. -/
theorem q_block (t : Fin cfg0.N) : (iblk m c 5 t : S1x64.Idx → EReal) = Q m c := by
  funext y
  show V m c main_v14 (((cfg0.win 5).blk t).view.emb y) = V m c main_v14 y
  congr 1
  blk_ext [idx5]

/-- An index of result window 6's block at point `t`, as an index of its array. -/
theorem emb6 (t : Fin cfg0.N) (y : S12288x2048.Idx) :
    (((cfg0.win 6).blk t).view.emb y : S12288x2048.Idx) = y := by
  blk_ext [idx6]

/-- An index of result window 7's block at point `t`, as an index of its array. -/
theorem emb7 (t : Fin cfg0.N) (y : S12288x128.Idx) :
    (((cfg0.win 7).blk t).view.emb y : S12288x128.Idx) = y := by
  blk_ext [idx7]

/-- An index of result window 8's block at point `t`, as an index of its array. -/
theorem emb8 (t : Fin cfg0.N) (y : S12288x128.Idx) :
    (((cfg0.win 8).blk t).view.emb y : S12288x128.Idx) = y := by
  blk_ext [idx8]

/-- An index of result window 9's block at point `t`, as an index of its array. -/
theorem emb9 (t : Fin cfg0.N) (y : S12288x16384.Idx) :
    (((cfg0.win 9).blk t).view.emb y : S12288x16384.Idx) = y := by
  blk_ext [idx9]

/-- An index of result window 10's block at point `t`, as an index of its array. -/
theorem emb10 (t : Fin cfg0.N) (y : S12288x1.Idx) :
    (((cfg0.win 10).blk t).view.emb y : S12288x1.Idx) = y := by
  blk_ext [idx10]

/-! ## The arrays -/

/-- The queries: sixteen rotated heads, as the body leaves them. -/
theorem query_point (f : Fin 64 → EReal) (hf : ∀ j : Fin 64, Q m c (ix2 0 j) = f j) (t : Fin cfg0.N) (i : S12288x2048.Idx) :
    (dats m 0 c).after 6 t i = queryAt (X m c) (G m c) (W m c) (S m c) (P m c) f (i 0) (i 1) := by
  rw [after0_6]
  have e : i = ix2 (i 0) (i 1) := eq_ix2 i
  refine (congrArg _ e).trans ((query_stored (iblk m c 0 t) (iblk m c 1 t) (iblk m c 2 t) (iblk m c 3 t) (iblk m c 4 t) (iblk m c 5 t) f (fun j => by rw [q_block]; exact hf j) (i 0) (i 1)).trans ?_)
  rw [x_block, g_block, w_block, s_block, p_block]

/-- The queries: sixteen rotated heads. -/
theorem query_array (f : Fin 64 → EReal) (hf : ∀ j : Fin 64, Q m c (ix2 0 j) = f j) (i : S12288x2048.Idx) :
    (dats m 0 c).arrAt 6 cfg0.N i = queryAt (X m c) (G m c) (W m c) (S m c) (P m c) f (i 0) (i 1) := by
  refine (dats m 0 c).arrAt_forall_of_covers 6 (fun i v => v = queryAt (X m c) (G m c) (W m c) (S m c) (P m c) f (i 0) (i 1)) (by decide +kernel)
    (fun t hfl y => ?_) i
  show (dats m 0 c).after 6 t y = _
  rw [emb6 t y]
  exact query_point m c f hf t y

/-- The keys: one rotated head, as the body leaves them. -/
theorem key_point (f : Fin 64 → EReal) (hf : ∀ j : Fin 64, Q m c (ix2 0 j) = f j) (t : Fin cfg0.N) (i : S12288x128.Idx) :
    (dats m 0 c).after 7 t i = keyAt (X m c) (G m c) (W m c) (S m c) (P m c) f (i 0) (i 1) := by
  rw [after0_7]
  have e : i = ix2 (i 0) (i 1) := eq_ix2 i
  refine (congrArg _ e).trans ((key_stored (iblk m c 0 t) (iblk m c 1 t) (iblk m c 2 t) (iblk m c 3 t) (iblk m c 4 t) (iblk m c 5 t) f (fun j => by rw [q_block]; exact hf j) (i 0) (i 1)).trans ?_)
  rw [x_block, g_block, w_block, s_block, p_block]

/-- The keys: one rotated head. -/
theorem key_array (f : Fin 64 → EReal) (hf : ∀ j : Fin 64, Q m c (ix2 0 j) = f j) (i : S12288x128.Idx) :
    (dats m 0 c).arrAt 7 cfg0.N i = keyAt (X m c) (G m c) (W m c) (S m c) (P m c) f (i 0) (i 1) := by
  refine (dats m 0 c).arrAt_forall_of_covers 7 (fun i v => v = keyAt (X m c) (G m c) (W m c) (S m c) (P m c) f (i 0) (i 1)) (by decide +kernel)
    (fun t hfl y => ?_) i
  show (dats m 0 c).after 7 t y = _
  rw [emb7 t y]
  exact key_point m c f hf t y

/-- The values, as the body leaves them. -/
theorem value_point (t : Fin cfg0.N) (i : S12288x128.Idx) :
    (dats m 0 c).after 8 t i = valueAt (X m c) (G m c) (W m c) (S m c) (i 0) (i 1) := by
  rw [after0_8]
  have e : i = ix2 (i 0) (i 1) := eq_ix2 i
  refine (congrArg _ e).trans ((value_stored (iblk m c 0 t) (iblk m c 1 t) (iblk m c 2 t) (iblk m c 3 t) (iblk m c 4 t) (iblk m c 5 t) (i 0) (i 1)).trans ?_)
  rw [x_block, g_block, w_block, s_block]

/-- The values. -/
theorem value_array (i : S12288x128.Idx) :
    (dats m 0 c).arrAt 8 cfg0.N i = valueAt (X m c) (G m c) (W m c) (S m c) (i 0) (i 1) := by
  refine (dats m 0 c).arrAt_forall_of_covers 8 (fun i v => v = valueAt (X m c) (G m c) (W m c) (S m c) (i 0) (i 1)) (by decide +kernel)
    (fun t hfl y => ?_) i
  show (dats m 0 c).after 8 t y = _
  rw [emb8 t y]
  exact value_point m c t y

/-- The codes, as the body leaves them. -/
theorem code_point (t : Fin cfg0.N) (i : S12288x16384.Idx) :
    (dats m 0 c).after 9 t i = codeAt (X m c) (G m c) (i 0) (i 1) := by
  rw [after0_9]
  have e : i = ix2 (i 0) (i 1) := eq_ix2 i
  refine (congrArg _ e).trans ((code_stored (iblk m c 0 t) (iblk m c 1 t) (iblk m c 2 t) (iblk m c 3 t) (iblk m c 4 t) (iblk m c 5 t) (i 0) (i 1)).trans ?_)
  rw [x_block, g_block]

/-- The codes. -/
theorem code_array (i : S12288x16384.Idx) :
    (dats m 0 c).arrAt 9 cfg0.N i = codeAt (X m c) (G m c) (i 0) (i 1) := by
  refine (dats m 0 c).arrAt_forall_of_covers 9 (fun i v => v = codeAt (X m c) (G m c) (i 0) (i 1)) (by decide +kernel)
    (fun t hfl y => ?_) i
  show (dats m 0 c).after 9 t y = _
  rw [emb9 t y]
  exact code_point m c t y

/-- The scales, as the body leaves them. -/
theorem scale_point (t : Fin cfg0.N) (i : S12288x1.Idx) :
    (dats m 0 c).after 10 t i = scaleAt (X m c) (G m c) (i 0) := by
  rw [after0_10]
  have e : i = ix2 (i 0) 0 := (eq_ix2 i).trans (congrArg (ix2 (i 0)) (Subsingleton.elim (α := Fin 1) (i 1) 0))
  refine (congrArg _ e).trans ((scale_stored (iblk m c 0 t) (iblk m c 1 t) (iblk m c 2 t) (iblk m c 3 t) (iblk m c 4 t) (iblk m c 5 t) (i 0)).trans ?_)
  rw [x_block, g_block]

/-- The scales. -/
theorem scale_array (i : S12288x1.Idx) :
    (dats m 0 c).arrAt 10 cfg0.N i = scaleAt (X m c) (G m c) (i 0) := by
  refine (dats m 0 c).arrAt_forall_of_covers 10 (fun i v => v = scaleAt (X m c) (G m c) (i 0)) (by decide +kernel)
    (fun t hfl y => ?_) i
  show (dats m 0 c).after 10 t y = _
  rw [emb10 t y]
  exact scale_point m c t y

end Cert.ReferenceIdeal.Arrays
end
end
-- ==== Proof.HostReads.lean ====
/-
  WHAT THE GRIDS FIND IN THEIR INPUT ARRAYS: reshaped arguments, and 64 rotation frequencies that depend on no argument.
  The kernel's frequency row holds the 64 twice, side by side.
-/
module

public import proofs.«01_k».proof.Proof.KernelArrays
public import proofs.«01_k».proof.Proof.ReferenceArrays
public import Idealize.ShloMosaic.Lib.StableHlo.ReadAt
public import Idealize.ShloMosaic.Lib.Pointwise

@[expose] public section

set_option maxRecDepth 16384

noncomputable section

namespace Cert.Host

open Idealize.ShloMosaic Idealize.ShloMosaic.TcCoe

/-- The 64 rotation frequencies, as both programs compute them: `10000 ^ (-(2 j) / 128)`. -/
def frequency (j : Fin 64) : EReal :=
  Ideal.pow (Ideal.ofBits .f32 0x461C4000#32)
    (Ideal.div (-(Ideal.ofBits .f32 0x40000000#32 * FloatOps.sitofp (F := Ideal) .f32 (BitVec.ofNat 32 j.val)))
      (Ideal.ofBits .f32 0x43000000#32))

section Kernel

open Cert.KernelIdeal Cert.KernelIdeal.Gen

variable (m : (ℓ : Loc nD τ sig) → Buf (Elt Ideal) ℓ) (c : Dev nD)

/-- The kernel's frequency row holds frequency `j % 64` at lane `j`. -/
theorem kernel_frequency (j : Fin 128) :
    Arrays.Q m c (ix2 0 j) = frequency ⟨j.val % 64, Nat.mod_lt _ (by norm_num)⟩ := by
  show StableHlo.after hostOps0 (fun b => m (c, b)) main_v11 (ix2 0 j) = _
  after_reads_at
  have h9 : ∀ k : Fin 64, StableHlo.upto hostOps0 (fun b => m (c, b)) 14 (Proc.tc.devRef main_v9) (ix1 k) = frequency k := by
    intro k
    unfold frequency
    after_reads_at
  by_cases h : j.val < 64
  · rw [dif_pos h, h9]
    exact congrArg frequency (Fin.ext (Nat.mod_eq_of_lt h).symm)
  · rw [dif_neg h, h9]
    exact congrArg frequency (Fin.ext (by show j.val - 64 = j.val % 64; omega))

/-- The kernel's activations are the argument reshaped. -/
theorem kernel_x : Arrays.X m c = shapeCast S12288x16384 (m ((c : Thread nD τ).loc main_arg0)) shapeCasts_S4x3072x16384_S12288x16384 := by
  dsimp only [Arrays.X, V, hostOps0]
  after_results
  rfl

/-- The kernel's gain are the argument reshaped. -/
theorem kernel_g : Arrays.G m c = shapeCast S1x16384 (m ((c : Thread nD τ).loc main_arg1)) shapeCasts_S16384_S1x16384 := by
  dsimp only [Arrays.G, V, hostOps0]
  after_results
  rfl

/-- The kernel's weights' scales are the argument reshaped. -/
theorem kernel_s : Arrays.S m c = shapeCast S1x2304 (m ((c : Thread nD τ).loc main_arg3)) shapeCasts_S2304_S1x2304 := by
  dsimp only [Arrays.S, V, hostOps0]
  after_results
  rfl

/-- The kernel's positions are the argument reshaped. -/
theorem kernel_p : Arrays.P m c = shapeCast S12288x1 (m ((c : Thread nD τ).loc main_arg4)) shapeCasts_S4x3072_S12288x1 := by
  dsimp only [Arrays.P, V, hostOps0]
  after_results
  rfl

end Kernel

section Reference

open Cert.ReferenceIdeal Cert.ReferenceIdeal.Gen

variable (m : (ℓ : Loc nD τ sig) → Buf (Elt Ideal) ℓ) (c : Dev nD)

/-- The reference's frequency row holds frequency `j` at lane `j`. -/
theorem reference_frequency (j : Fin 64) : Arrays.Q m c (ix2 0 j) = frequency j := by
  show StableHlo.after hostOps0 (fun b => m (c, b)) main_v14 (ix2 0 j) = _
  unfold frequency
  after_reads_at

/-- The reference's activations are the argument reshaped. -/
theorem reference_x : Arrays.X m c = shapeCast S12288x16384 (m ((c : Thread nD τ).loc main_arg0)) shapeCasts_S4x3072x16384_S12288x16384 := by
  dsimp only [Arrays.X, V, hostOps0]
  after_results
  rfl

/-- The reference's gain are the argument reshaped. -/
theorem reference_g : Arrays.G m c = shapeCast S1x16384 (m ((c : Thread nD τ).loc main_arg1)) shapeCasts_S16384_S1x16384 := by
  dsimp only [Arrays.G, V, hostOps0]
  after_results
  rfl

/-- The reference's weights' scales are the argument reshaped. -/
theorem reference_s : Arrays.S m c = shapeCast S1x2304 (m ((c : Thread nD τ).loc main_arg3)) shapeCasts_S2304_S1x2304 := by
  dsimp only [Arrays.S, V, hostOps0]
  after_results
  rfl

/-- The reference's positions are the argument reshaped. -/
theorem reference_p : Arrays.P m c = shapeCast S12288x1 (m ((c : Thread nD τ).loc main_arg4)) shapeCasts_S4x3072_S12288x1 := by
  dsimp only [Arrays.P, V, hostOps0]
  after_results
  rfl

end Reference

end Cert.Host
end
end
-- ==== Proof.Agree.lean ====
/-
  THE TWO PROGRAMS' RESULTS ARE EQUAL: from memories that agree on the arguments both grids find the same input arrays, and
  both leave Spec.lean's results of them.
-/
module

public import proofs.«01_k».proof.Defs
public import proofs.«01_k».proof.Proof.HostReads
public import proofs.«01_k».proof.Proof.Gen.Kernel
public import proofs.«01_k».proof.Proof.Gen.KernelIdeal.Value
public import Idealize.ShloMosaic.Lib.Claim

@[expose] public section

set_option maxRecDepth 16384

noncomputable section

namespace Cert.Agree

open Idealize.ShloMosaic Idealize.ShloMosaic.TcCoe Idealize.SL.Sem Cert.Host Cert.Spec

section Arrays

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Both grids find the same array. -/
theorem x_agree (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.KernelIdeal.Arrays.X m c = Cert.ReferenceIdeal.Arrays.X m' c := by
  rw [kernel_x, reference_x, h0]

/-- Both grids find the same array. -/
theorem g_agree (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.KernelIdeal.Arrays.G m c = Cert.ReferenceIdeal.Arrays.G m' c := by
  rw [kernel_g, reference_g, h1]

/-- Both grids find the same array. -/
theorem w_agree (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.KernelIdeal.Arrays.W m c = Cert.ReferenceIdeal.Arrays.W m' c := by
  exact (Cert.KernelIdeal.Gen.V_main_arg2 m c).trans (h2.symm.trans (Cert.ReferenceIdeal.Gen.V_main_arg2 m' c).symm)

/-- Both grids find the same array. -/
theorem s_agree (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.KernelIdeal.Arrays.S m c = Cert.ReferenceIdeal.Arrays.S m' c := by
  rw [kernel_s, reference_s, h3]

/-- Both grids find the same array. -/
theorem p_agree (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.KernelIdeal.Arrays.P m c = Cert.ReferenceIdeal.Arrays.P m' c := by
  rw [kernel_p, reference_p, h4]

/-- The two programs leave the same array. -/
theorem query_agree (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    ((Cert.KernelIdeal.Gen.dats m 0 c).arrAt 6 Cert.KernelIdeal.cfg0.N : Cert.KernelIdeal.S12288x2048.Idx → EReal)
      = (Cert.ReferenceIdeal.Gen.dats m' 0 c).arrAt 6 Cert.ReferenceIdeal.cfg0.N := by
  funext i
  refine (Cert.KernelIdeal.Arrays.query_array m c frequency (kernel_frequency m c) i).trans
    (Eq.trans ?_ (Cert.ReferenceIdeal.Arrays.query_array m' c frequency (reference_frequency m' c) i).symm)
  rw [x_agree m m' c h0, g_agree m m' c h1, w_agree m m' c h2, s_agree m m' c h3, p_agree m m' c h4]

/-- The two programs leave the same array. -/
theorem key_agree (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    ((Cert.KernelIdeal.Gen.dats m 0 c).arrAt 7 Cert.KernelIdeal.cfg0.N : Cert.KernelIdeal.S12288x128.Idx → EReal)
      = (Cert.ReferenceIdeal.Gen.dats m' 0 c).arrAt 7 Cert.ReferenceIdeal.cfg0.N := by
  funext i
  refine (Cert.KernelIdeal.Arrays.key_array m c frequency (kernel_frequency m c) i).trans
    (Eq.trans ?_ (Cert.ReferenceIdeal.Arrays.key_array m' c frequency (reference_frequency m' c) i).symm)
  rw [x_agree m m' c h0, g_agree m m' c h1, w_agree m m' c h2, s_agree m m' c h3, p_agree m m' c h4]

/-- The two programs leave the same array. -/
theorem value_agree (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    ((Cert.KernelIdeal.Gen.dats m 0 c).arrAt 8 Cert.KernelIdeal.cfg0.N : Cert.KernelIdeal.S12288x128.Idx → EReal)
      = (Cert.ReferenceIdeal.Gen.dats m' 0 c).arrAt 8 Cert.ReferenceIdeal.cfg0.N := by
  funext i
  refine (Cert.KernelIdeal.Arrays.value_array m c i).trans
    (Eq.trans ?_ (Cert.ReferenceIdeal.Arrays.value_array m' c i).symm)
  rw [x_agree m m' c h0, g_agree m m' c h1, w_agree m m' c h2, s_agree m m' c h3]

/-- The two programs leave the same array. -/
theorem code_agree (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    ((Cert.KernelIdeal.Gen.dats m 0 c).arrAt 9 Cert.KernelIdeal.cfg0.N : Cert.KernelIdeal.S12288x16384.Idx → EReal)
      = (Cert.ReferenceIdeal.Gen.dats m' 0 c).arrAt 9 Cert.ReferenceIdeal.cfg0.N := by
  funext i
  refine (Cert.KernelIdeal.Arrays.code_array m c i).trans
    (Eq.trans ?_ (Cert.ReferenceIdeal.Arrays.code_array m' c i).symm)
  rw [x_agree m m' c h0, g_agree m m' c h1]

/-- The two programs leave the same array. -/
theorem scale_agree (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    ((Cert.KernelIdeal.Gen.dats m 0 c).arrAt 10 Cert.KernelIdeal.cfg0.N : Cert.KernelIdeal.S12288x1.Idx → EReal)
      = (Cert.ReferenceIdeal.Gen.dats m' 0 c).arrAt 10 Cert.ReferenceIdeal.cfg0.N := by
  funext i
  refine (Cert.KernelIdeal.Arrays.scale_array m c i).trans
    (Eq.trans ?_ (Cert.ReferenceIdeal.Arrays.scale_array m' c i).symm)
  rw [x_agree m m' c h0, g_agree m m' c h1]

end Arrays

/-- The kernel and the reference, from the same arguments, end with the same five results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks m g, ?_⟩
  refine (θ_run Cert.ReferenceIdeal.defs _ _).mono (fun r h c => ?_) (Cert.ReferenceIdeal.Arrays.run_blocks m' g')
  obtain ⟨h0, h1, h2, h3, h4⟩ := hargs c
  obtain ⟨r0, r1, r2, r3, r4, kept⟩ := h c
  exact ⟨r0.trans (query_agree m m' c h0 h1 h2 h3 h4).symm, r1.trans (key_agree m m' c h0 h1 h2 h3 h4).symm,
    r2.trans (value_agree m m' c h0 h1 h2 h3).symm, r3.trans (code_agree m m' c h0 h1).symm,
    r4.trans (scale_agree m m' c h0 h1).symm, kept⟩

end Cert.Agree
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The three programs run to the end, change no argument and leave every semaphore at zero; the idealized kernel is
    the kernel; and the idealized kernel and reference leave the same five results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial,
  Cert.Agree.algebraic⟩

end Cert.Proof

end
